-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![16384, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S256x512 : Shape := ⟨2, ![256, 512]⟩
abbrev S512x128 : Shape := ⟨2, ![512, 128]⟩
abbrev S_ : Shape := ⟨0, ![]⟩

class Facts : Prop where
  bcast_S_S512x128 : S_.BroadcastsInDim S512x128 (![] : Fin 0 → Fin S512x128.rank)
  dot_S512x256_S256x128_S512x128_1_0_0_1_n_n_wf : DotDims.WF S512x256 S256x128 S512x128 [1] [0] [0] [1] [] []

variable [Facts]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def fn {F : FTy → Type} [FloatOps F] (main_arg0 : FVec F S512x256 .f32) (main_arg1 : FVec F S256x128 .f32) (main_arg2 : IVec S512x1 32) (main_arg3 : FVec F S4x256x512 .f32) (main_arg4 : FVec F S256x512 .f32) : IVec S512x128 1 :=
  let main_v0 : FVec F S512x128 .f32 := (fun l r => Host.dotGeneral dot_S512x256_S256x128_S512x128_1_0_0_1_n_n none l r) main_arg0 main_arg1
  let main_v1 : FVec F S512x128 .f32 := Host.absf main_v0
  let main_cst : FVec F S_ .f32 := constant S_ .f32 0x7F800000#32
  let main_v2 : FVec F S512x128 .f32 := broadcastInDim S512x128 ![] bcast_S_S512x128 main_cst
  let main_v3 : IVec S512x128 1 := cmpf .olt main_v1 main_v2
  main_v3
-- ==== Pre_finite_scores_ReferenceIdeal.lean ====
abbrev S16384x256 : Shape := ⟨2, ![16384, 256]⟩
abbrev S256x128 : Shape := ⟨2, ![256, 128]⟩
abbrev S16384x1 : Shape := ⟨2, ![16384, 1]⟩
abbrev S128x256x512 : Shape := ⟨3, ![128, 256, 512]⟩
abbrev S256x512 : Shape := ⟨2, ![256, 512]⟩
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  dot_S16384x256_S256x128_S16384x128_1_0_0_1_n_n_wf : DotDims.WF S16384x256 S256x128 S16384x128 [1] [0] [0] [1] [] []

variable [Facts]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def fn {F : FTy → Type} [FloatOps F] (main_arg0 : FVec F S16384x256 .f32) (main_arg1 : FVec F S256x128 .f32) (main_arg2 : IVec S16384x1 32) (main_arg3 : FVec F S128x256x512 .f32) (main_arg4 : FVec F S256x512 .f32) : IVec S16384x128 1 :=
  let main_v0 : FVec F S16384x128 .f32 := (fun l r => Host.dotGeneral dot_S16384x256_S256x128_S16384x128_1_0_0_1_n_n none l r) main_arg0 main_arg1
  let main_v1 : FVec F S16384x128 .f32 := Host.absf main_v0
  let main_cst : FVec F S_ .f32 := constant S_ .f32 0x7F800000#32
  let main_v2 : FVec F S16384x128 .f32 := broadcastInDim S16384x128 ![] bcast_S_S16384x128 main_cst
  let main_v3 : IVec S16384x128 1 := cmpf .olt main_v1 main_v2
  main_v3
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S2x512x384 : Shape := ⟨3, ![2, 512, 384]⟩
abbrev S2x512x512 : Shape := ⟨3, ![2, 512, 512]⟩
abbrev S2 : Shape := ⟨1, ![2]⟩
abbrev S_ : Shape := ⟨0, ![]⟩
abbrev S512x128 : Shape := ⟨2, ![512, 128]⟩
abbrev S512 : Shape := ⟨1, ![512]⟩
abbrev S1x512x256 : Shape := ⟨3, ![1, 512, 256]⟩
abbrev S1x512x1 : Shape := ⟨3, ![1, 512, 1]⟩
abbrev S1x512x512 : Shape := ⟨3, ![1, 512, 512]⟩
abbrev S1024x512 : Shape := ⟨2, ![1024, 512]⟩
abbrev S1 : Shape := ⟨1, ![1]⟩
abbrev S1x512x384 : Shape := ⟨3, ![1, 512, 384]⟩
abbrev S512x384 : Shape := ⟨2, ![512, 384]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x128, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S512x512, .f32⟩
  | .local _ .vmem, ⟨6, _⟩ => ⟨S2x512x384, .bf16⟩
  | .local _ .vmem, ⟨7, _⟩ => ⟨S2x512x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_39 : BitVec 32 := 1#32
  let v60 : BitVec 32 := Scalar.muli v7 c1_i32_39
  let v61 : BitVec 32 := Scalar.addi c0_i32_40 v60
  v61.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_69 : BitVec 32 := 1#32
  let v116 : BitVec 32 := Scalar.muli v7 c1_i32_69
  let v117 : BitVec 32 := Scalar.addi c0_i32_70 v116
  v117.toNat
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_85 : BitVec 32 := 1#32
  let v132 : BitVec 32 := Scalar.muli v5 c1_i32_85
  let v133 : BitVec 32 := Scalar.addi c0_i32_86 v132
  v133.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_103 : BitVec 32 := 1#32
  let v142 : BitVec 32 := Scalar.muli v7 c1_i32_103
  let v143 : BitVec 32 := Scalar.addi c0_i32_104 v142
  v143.toNat
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_133 : BitVec 32 := 1#32
  let v196 : BitVec 32 := Scalar.muli v5 c1_i32_133
  let v197 : BitVec 32 := Scalar.addi c0_i32_134 v196
  v197.toNat
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_157 : BitVec 32 := 1#32
  let v214 : BitVec 32 := Scalar.muli v7 c1_i32_157
  let v215 : BitVec 32 := Scalar.addi c0_i32_158 v214
  v215.toNat
def k0_dev9 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_173 : BitVec 32 := 1#32
  let v230 : BitVec 32 := Scalar.muli v5 c1_i32_173
  let v231 : BitVec 32 := Scalar.addi c0_i32_174 v230
  v231.toNat
def k0_dev10 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_191 : BitVec 32 := 1#32
  let v240 : BitVec 32 := Scalar.muli v7 c1_i32_191
  let v241 : BitVec 32 := Scalar.addi c0_i32_192 v240
  v241.toNat
def k0_dev11 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_222 : BitVec 32 := 1#32
  let v294 : BitVec 32 := Scalar.muli v5 c1_i32_222
  let v295 : BitVec 32 := Scalar.addi c0_i32_223 v294
  v295.toNat
def k0_dev12 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_246 : BitVec 32 := 1#32
  let v312 : BitVec 32 := Scalar.muli v7 c1_i32_246
  let v313 : BitVec 32 := Scalar.addi c0_i32_247 v312
  v313.toNat
def k0_dev13 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_262 : BitVec 32 := 1#32
  let v328 : BitVec 32 := Scalar.muli v5 c1_i32_262
  let v329 : BitVec 32 := Scalar.addi c0_i32_263 v328
  v329.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_280 : BitVec 32 := 1#32
  let v338 : BitVec 32 := Scalar.muli v7 c1_i32_280
  let v339 : BitVec 32 := Scalar.addi c0_i32_281 v338
  v339.toNat
def k0_dev15 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_311 : BitVec 32 := 1#32
  let v392 : BitVec 32 := Scalar.muli v5 c1_i32_311
  let v393 : BitVec 32 := Scalar.addi c0_i32_312 v392
  v393.toNat
def k0_dev16 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_335 : BitVec 32 := 1#32
  let v410 : BitVec 32 := Scalar.muli v7 c1_i32_335
  let v411 : BitVec 32 := Scalar.addi c0_i32_336 v410
  v411.toNat
def k0_dev17 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_351 : BitVec 32 := 1#32
  let v426 : BitVec 32 := Scalar.muli v5 c1_i32_351
  let v427 : BitVec 32 := Scalar.addi c0_i32_352 v426
  v427.toNat
def k0_dev18 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_369 : BitVec 32 := 1#32
  let v436 : BitVec 32 := Scalar.muli v7 c1_i32_369
  let v437 : BitVec 32 := Scalar.addi c0_i32_370 v436
  v437.toNat
def k0_dev19 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_400 : BitVec 32 := 1#32
  let v490 : BitVec 32 := Scalar.muli v5 c1_i32_400
  let v491 : BitVec 32 := Scalar.addi c0_i32_401 v490
  v491.toNat
def k0_dev20 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_424 : BitVec 32 := 1#32
  let v508 : BitVec 32 := Scalar.muli v7 c1_i32_424
  let v509 : BitVec 32 := Scalar.addi c0_i32_425 v508
  v509.toNat
def k0_dev21 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_440 : BitVec 32 := 1#32
  let v524 : BitVec 32 := Scalar.muli v5 c1_i32_440
  let v525 : BitVec 32 := Scalar.addi c0_i32_441 v524
  v525.toNat
def k0_dev22 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_458 : BitVec 32 := 1#32
  let v534 : BitVec 32 := Scalar.muli v7 c1_i32_458
  let v535 : BitVec 32 := Scalar.addi c0_i32_459 v534
  v535.toNat
def k0_dev23 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_489 : BitVec 32 := 1#32
  let v588 : BitVec 32 := Scalar.muli v5 c1_i32_489
  let v589 : BitVec 32 := Scalar.addi c0_i32_490 v588
  v589.toNat
def k0_dev24 (d0 : Dev nD) : Nat :=
  let c0_i32_514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_513 : BitVec 32 := 1#32
  let v606 : BitVec 32 := Scalar.muli v7 c1_i32_513
  let v607 : BitVec 32 := Scalar.addi c0_i32_514 v606
  v607.toNat
def k0_dev25 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_529 : BitVec 32 := 1#32
  let v622 : BitVec 32 := Scalar.muli v5 c1_i32_529
  let v623 : BitVec 32 := Scalar.addi c0_i32_530 v622
  v623.toNat
def k0_dev26 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_547 : BitVec 32 := 1#32
  let v632 : BitVec 32 := Scalar.muli v7 c1_i32_547
  let v633 : BitVec 32 := Scalar.addi c0_i32_548 v632
  v633.toNat
def k0_dev27 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_578 : BitVec 32 := 1#32
  let v686 : BitVec 32 := Scalar.muli v5 c1_i32_578
  let v687 : BitVec 32 := Scalar.addi c0_i32_579 v686
  v687.toNat
def k0_dev28 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_602 : BitVec 32 := 1#32
  let v704 : BitVec 32 := Scalar.muli v7 c1_i32_602
  let v705 : BitVec 32 := Scalar.addi c0_i32_603 v704
  v705.toNat
def k0_dev29 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_618 : BitVec 32 := 1#32
  let v720 : BitVec 32 := Scalar.muli v5 c1_i32_618
  let v721 : BitVec 32 := Scalar.addi c0_i32_619 v720
  v721.toNat
def k0_dev30 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_636 : BitVec 32 := 1#32
  let v730 : BitVec 32 := Scalar.muli v7 c1_i32_636
  let v731 : BitVec 32 := Scalar.addi c0_i32_637 v730
  v731.toNat
def k0_dev31 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_667 : BitVec 32 := 1#32
  let v784 : BitVec 32 := Scalar.muli v5 c1_i32_667
  let v785 : BitVec 32 := Scalar.addi c0_i32_668 v784
  v785.toNat
def k0_dev32 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_691 : BitVec 32 := 1#32
  let v802 : BitVec 32 := Scalar.muli v7 c1_i32_691
  let v803 : BitVec 32 := Scalar.addi c0_i32_692 v802
  v803.toNat
def k0_dev33 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_707 : BitVec 32 := 1#32
  let v818 : BitVec 32 := Scalar.muli v5 c1_i32_707
  let v819 : BitVec 32 := Scalar.addi c0_i32_708 v818
  v819.toNat
def k0_dev34 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_725 : BitVec 32 := 1#32
  let v828 : BitVec 32 := Scalar.muli v7 c1_i32_725
  let v829 : BitVec 32 := Scalar.addi c0_i32_726 v828
  v829.toNat
def k0_dev35 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_756 : BitVec 32 := 1#32
  let v882 : BitVec 32 := Scalar.muli v5 c1_i32_756
  let v883 : BitVec 32 := Scalar.addi c0_i32_757 v882
  v883.toNat
def k0_dev36 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_780 : BitVec 32 := 1#32
  let v900 : BitVec 32 := Scalar.muli v7 c1_i32_780
  let v901 : BitVec 32 := Scalar.addi c0_i32_781 v900
  v901.toNat
def k0_dev37 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_796 : BitVec 32 := 1#32
  let v916 : BitVec 32 := Scalar.muli v5 c1_i32_796
  let v917 : BitVec 32 := Scalar.addi c0_i32_797 v916
  v917.toNat
def k0_dev38 (d0 : Dev nD) : Nat :=
  let c0_i32_815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_814 : BitVec 32 := 1#32
  let v926 : BitVec 32 := Scalar.muli v7 c1_i32_814
  let v927 : BitVec 32 := Scalar.addi c0_i32_815 v926
  v927.toNat
def k0_dev39 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_845 : BitVec 32 := 1#32
  let v980 : BitVec 32 := Scalar.muli v5 c1_i32_845
  let v981 : BitVec 32 := Scalar.addi c0_i32_846 v980
  v981.toNat
def k0_dev40 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_869 : BitVec 32 := 1#32
  let v998 : BitVec 32 := Scalar.muli v7 c1_i32_869
  let v999 : BitVec 32 := Scalar.addi c0_i32_870 v998
  v999.toNat
def k0_dev41 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_885 : BitVec 32 := 1#32
  let v1014 : BitVec 32 := Scalar.muli v5 c1_i32_885
  let v1015 : BitVec 32 := Scalar.addi c0_i32_886 v1014
  v1015.toNat
def k0_dev42 (d0 : Dev nD) : Nat :=
  let c0_i32_904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_903 : BitVec 32 := 1#32
  let v1024 : BitVec 32 := Scalar.muli v7 c1_i32_903
  let v1025 : BitVec 32 := Scalar.addi c0_i32_904 v1024
  v1025.toNat
def k0_dev43 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_934 : BitVec 32 := 1#32
  let v1078 : BitVec 32 := Scalar.muli v5 c1_i32_934
  let v1079 : BitVec 32 := Scalar.addi c0_i32_935 v1078
  v1079.toNat
def k0_dev44 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_958 : BitVec 32 := 1#32
  let v1096 : BitVec 32 := Scalar.muli v7 c1_i32_958
  let v1097 : BitVec 32 := Scalar.addi c0_i32_959 v1096
  v1097.toNat
def k0_dev45 (d0 : Dev nD) : Nat :=
  let c0_i32_975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_974 : BitVec 32 := 1#32
  let v1112 : BitVec 32 := Scalar.muli v5 c1_i32_974
  let v1113 : BitVec 32 := Scalar.addi c0_i32_975 v1112
  v1113.toNat
def k0_dev46 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_992 : BitVec 32 := 1#32
  let v1122 : BitVec 32 := Scalar.muli v7 c1_i32_992
  let v1123 : BitVec 32 := Scalar.addi c0_i32_993 v1122
  v1123.toNat
def k0_dev47 (d0 : Dev nD) : Nat :=
  let c0_i32_1024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1023 : BitVec 32 := 1#32
  let v1176 : BitVec 32 := Scalar.muli v5 c1_i32_1023
  let v1177 : BitVec 32 := Scalar.addi c0_i32_1024 v1176
  v1177.toNat
def k0_dev48 (d0 : Dev nD) : Nat :=
  let c0_i32_1048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1047 : BitVec 32 := 1#32
  let v1194 : BitVec 32 := Scalar.muli v7 c1_i32_1047
  let v1195 : BitVec 32 := Scalar.addi c0_i32_1048 v1194
  v1195.toNat
def k0_dev49 (d0 : Dev nD) : Nat :=
  let c0_i32_1064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1063 : BitVec 32 := 1#32
  let v1210 : BitVec 32 := Scalar.muli v5 c1_i32_1063
  let v1211 : BitVec 32 := Scalar.addi c0_i32_1064 v1210
  v1211.toNat
def k0_dev50 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1081 : BitVec 32 := 1#32
  let v1220 : BitVec 32 := Scalar.muli v7 c1_i32_1081
  let v1221 : BitVec 32 := Scalar.addi c0_i32_1082 v1220
  v1221.toNat
def k0_dev51 (d0 : Dev nD) : Nat :=
  let c0_i32_1113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1112 : BitVec 32 := 1#32
  let v1274 : BitVec 32 := Scalar.muli v5 c1_i32_1112
  let v1275 : BitVec 32 := Scalar.addi c0_i32_1113 v1274
  v1275.toNat
def k0_dev52 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1136 : BitVec 32 := 1#32
  let v1292 : BitVec 32 := Scalar.muli v7 c1_i32_1136
  let v1293 : BitVec 32 := Scalar.addi c0_i32_1137 v1292
  v1293.toNat
def k0_dev53 (d0 : Dev nD) : Nat :=
  let c0_i32_1153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1152 : BitVec 32 := 1#32
  let v1308 : BitVec 32 := Scalar.muli v5 c1_i32_1152
  let v1309 : BitVec 32 := Scalar.addi c0_i32_1153 v1308
  v1309.toNat
def k0_dev54 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1170 : BitVec 32 := 1#32
  let v1318 : BitVec 32 := Scalar.muli v7 c1_i32_1170
  let v1319 : BitVec 32 := Scalar.addi c0_i32_1171 v1318
  v1319.toNat
def k0_dev55 (d0 : Dev nD) : Nat :=
  let c0_i32_1202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1201 : BitVec 32 := 1#32
  let v1372 : BitVec 32 := Scalar.muli v5 c1_i32_1201
  let v1373 : BitVec 32 := Scalar.addi c0_i32_1202 v1372
  v1373.toNat
def k0_dev56 (d0 : Dev nD) : Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1225 : BitVec 32 := 1#32
  let v1390 : BitVec 32 := Scalar.muli v7 c1_i32_1225
  let v1391 : BitVec 32 := Scalar.addi c0_i32_1226 v1390
  v1391.toNat
def k0_dev57 (d0 : Dev nD) : Nat :=
  let c0_i32_1242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1241 : BitVec 32 := 1#32
  let v1406 : BitVec 32 := Scalar.muli v5 c1_i32_1241
  let v1407 : BitVec 32 := Scalar.addi c0_i32_1242 v1406
  v1407.toNat
def k0_dev58 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1259 : BitVec 32 := 1#32
  let v1416 : BitVec 32 := Scalar.muli v7 c1_i32_1259
  let v1417 : BitVec 32 := Scalar.addi c0_i32_1260 v1416
  v1417.toNat
def k0_dev59 (d0 : Dev nD) : Nat :=
  let c0_i32_1291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1290 : BitVec 32 := 1#32
  let v1470 : BitVec 32 := Scalar.muli v5 c1_i32_1290
  let v1471 : BitVec 32 := Scalar.addi c0_i32_1291 v1470
  v1471.toNat
def k0_dev60 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1314 : BitVec 32 := 1#32
  let v1488 : BitVec 32 := Scalar.muli v7 c1_i32_1314
  let v1489 : BitVec 32 := Scalar.addi c0_i32_1315 v1488
  v1489.toNat
def k0_dev61 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1330 : BitVec 32 := 1#32
  let v1504 : BitVec 32 := Scalar.muli v5 c1_i32_1330
  let v1505 : BitVec 32 := Scalar.addi c0_i32_1331 v1504
  v1505.toNat
def k0_dev62 (d0 : Dev nD) : Nat :=
  let c0_i32_1349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1348 : BitVec 32 := 1#32
  let v1514 : BitVec 32 := Scalar.muli v7 c1_i32_1348
  let v1515 : BitVec 32 := Scalar.addi c0_i32_1349 v1514
  v1515.toNat
def k0_dev63 (d0 : Dev nD) : Nat :=
  let c0_i32_1380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1379 : BitVec 32 := 1#32
  let v1568 : BitVec 32 := Scalar.muli v5 c1_i32_1379
  let v1569 : BitVec 32 := Scalar.addi c0_i32_1380 v1568
  v1569.toNat
def k0_dev64 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1403 : BitVec 32 := 1#32
  let v1586 : BitVec 32 := Scalar.muli v7 c1_i32_1403
  let v1587 : BitVec 32 := Scalar.addi c0_i32_1404 v1586
  v1587.toNat
def k0_dev65 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1419 : BitVec 32 := 1#32
  let v1602 : BitVec 32 := Scalar.muli v5 c1_i32_1419
  let v1603 : BitVec 32 := Scalar.addi c0_i32_1420 v1602
  v1603.toNat
def k0_dev66 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1437 : BitVec 32 := 1#32
  let v1612 : BitVec 32 := Scalar.muli v7 c1_i32_1437
  let v1613 : BitVec 32 := Scalar.addi c0_i32_1438 v1612
  v1613.toNat
def k0_dev67 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1468 : BitVec 32 := 1#32
  let v1666 : BitVec 32 := Scalar.muli v5 c1_i32_1468
  let v1667 : BitVec 32 := Scalar.addi c0_i32_1469 v1666
  v1667.toNat
def k0_dev68 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1492 : BitVec 32 := 1#32
  let v1684 : BitVec 32 := Scalar.muli v7 c1_i32_1492
  let v1685 : BitVec 32 := Scalar.addi c0_i32_1493 v1684
  v1685.toNat
def k0_dev69 (d0 : Dev nD) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1508 : BitVec 32 := 1#32
  let v1700 : BitVec 32 := Scalar.muli v5 c1_i32_1508
  let v1701 : BitVec 32 := Scalar.addi c0_i32_1509 v1700
  v1701.toNat
def k0_dev70 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1526 : BitVec 32 := 1#32
  let v1710 : BitVec 32 := Scalar.muli v7 c1_i32_1526
  let v1711 : BitVec 32 := Scalar.addi c0_i32_1527 v1710
  v1711.toNat
def k0_dev71 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1557 : BitVec 32 := 1#32
  let v1764 : BitVec 32 := Scalar.muli v5 c1_i32_1557
  let v1765 : BitVec 32 := Scalar.addi c0_i32_1558 v1764
  v1765.toNat
def k0_dev72 (d0 : Dev nD) : Nat :=
  let c0_i32_1582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1581 : BitVec 32 := 1#32
  let v1782 : BitVec 32 := Scalar.muli v7 c1_i32_1581
  let v1783 : BitVec 32 := Scalar.addi c0_i32_1582 v1782
  v1783.toNat
def k0_dev73 (d0 : Dev nD) : Nat :=
  let c0_i32_1598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1597 : BitVec 32 := 1#32
  let v1798 : BitVec 32 := Scalar.muli v5 c1_i32_1597
  let v1799 : BitVec 32 := Scalar.addi c0_i32_1598 v1798
  v1799.toNat
def k0_dev74 (d0 : Dev nD) : Nat :=
  let c0_i32_1616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1615 : BitVec 32 := 1#32
  let v1808 : BitVec 32 := Scalar.muli v7 c1_i32_1615
  let v1809 : BitVec 32 := Scalar.addi c0_i32_1616 v1808
  v1809.toNat
def k0_dev75 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1646 : BitVec 32 := 1#32
  let v1862 : BitVec 32 := Scalar.muli v5 c1_i32_1646
  let v1863 : BitVec 32 := Scalar.addi c0_i32_1647 v1862
  v1863.toNat
def k0_dev76 (d0 : Dev nD) : Nat :=
  let c0_i32_1671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1670 : BitVec 32 := 1#32
  let v1880 : BitVec 32 := Scalar.muli v7 c1_i32_1670
  let v1881 : BitVec 32 := Scalar.addi c0_i32_1671 v1880
  v1881.toNat
def k0_dev77 (d0 : Dev nD) : Nat :=
  let c0_i32_1687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1686 : BitVec 32 := 1#32
  let v1896 : BitVec 32 := Scalar.muli v5 c1_i32_1686
  let v1897 : BitVec 32 := Scalar.addi c0_i32_1687 v1896
  v1897.toNat
def k0_dev78 (d0 : Dev nD) : Nat :=
  let c0_i32_1705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1704 : BitVec 32 := 1#32
  let v1906 : BitVec 32 := Scalar.muli v7 c1_i32_1704
  let v1907 : BitVec 32 := Scalar.addi c0_i32_1705 v1906
  v1907.toNat
def k0_dev79 (d0 : Dev nD) : Nat :=
  let c0_i32_1736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1735 : BitVec 32 := 1#32
  let v1960 : BitVec 32 := Scalar.muli v5 c1_i32_1735
  let v1961 : BitVec 32 := Scalar.addi c0_i32_1736 v1960
  v1961.toNat
def k0_dev80 (d0 : Dev nD) : Nat :=
  let c0_i32_1760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1759 : BitVec 32 := 1#32
  let v1978 : BitVec 32 := Scalar.muli v7 c1_i32_1759
  let v1979 : BitVec 32 := Scalar.addi c0_i32_1760 v1978
  v1979.toNat
def k0_dev81 (d0 : Dev nD) : Nat :=
  let c0_i32_1776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1775 : BitVec 32 := 1#32
  let v1994 : BitVec 32 := Scalar.muli v5 c1_i32_1775
  let v1995 : BitVec 32 := Scalar.addi c0_i32_1776 v1994
  v1995.toNat
def k0_dev82 (d0 : Dev nD) : Nat :=
  let c0_i32_1794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1793 : BitVec 32 := 1#32
  let v2004 : BitVec 32 := Scalar.muli v7 c1_i32_1793
  let v2005 : BitVec 32 := Scalar.addi c0_i32_1794 v2004
  v2005.toNat
def k0_dev83 (d0 : Dev nD) : Nat :=
  let c0_i32_1825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1824 : BitVec 32 := 1#32
  let v2058 : BitVec 32 := Scalar.muli v5 c1_i32_1824
  let v2059 : BitVec 32 := Scalar.addi c0_i32_1825 v2058
  v2059.toNat
def k0_dev84 (d0 : Dev nD) : Nat :=
  let c0_i32_1849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1848 : BitVec 32 := 1#32
  let v2076 : BitVec 32 := Scalar.muli v7 c1_i32_1848
  let v2077 : BitVec 32 := Scalar.addi c0_i32_1849 v2076
  v2077.toNat
def k0_dev85 (d0 : Dev nD) : Nat :=
  let c0_i32_1865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1864 : BitVec 32 := 1#32
  let v2092 : BitVec 32 := Scalar.muli v5 c1_i32_1864
  let v2093 : BitVec 32 := Scalar.addi c0_i32_1865 v2092
  v2093.toNat
def k0_dev86 (d0 : Dev nD) : Nat :=
  let c0_i32_1883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1882 : BitVec 32 := 1#32
  let v2102 : BitVec 32 := Scalar.muli v7 c1_i32_1882
  let v2103 : BitVec 32 := Scalar.addi c0_i32_1883 v2102
  v2103.toNat
def k0_dev87 (d0 : Dev nD) : Nat :=
  let c0_i32_1914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1913 : BitVec 32 := 1#32
  let v2156 : BitVec 32 := Scalar.muli v5 c1_i32_1913
  let v2157 : BitVec 32 := Scalar.addi c0_i32_1914 v2156
  v2157.toNat
def k0_dev88 (d0 : Dev nD) : Nat :=
  let c0_i32_1938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1937 : BitVec 32 := 1#32
  let v2174 : BitVec 32 := Scalar.muli v7 c1_i32_1937
  let v2175 : BitVec 32 := Scalar.addi c0_i32_1938 v2174
  v2175.toNat
def k0_dev89 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1953 : BitVec 32 := 1#32
  let v2190 : BitVec 32 := Scalar.muli v5 c1_i32_1953
  let v2191 : BitVec 32 := Scalar.addi c0_i32_1954 v2190
  v2191.toNat
def k0_dev90 (d0 : Dev nD) : Nat :=
  let c0_i32_1972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1971 : BitVec 32 := 1#32
  let v2200 : BitVec 32 := Scalar.muli v7 c1_i32_1971
  let v2201 : BitVec 32 := Scalar.addi c0_i32_1972 v2200
  v2201.toNat
def k0_dev91 (d0 : Dev nD) : Nat :=
  let c0_i32_2003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2002 : BitVec 32 := 1#32
  let v2254 : BitVec 32 := Scalar.muli v5 c1_i32_2002
  let v2255 : BitVec 32 := Scalar.addi c0_i32_2003 v2254
  v2255.toNat
def k0_dev92 (d0 : Dev nD) : Nat :=
  let c0_i32_2027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2026 : BitVec 32 := 1#32
  let v2272 : BitVec 32 := Scalar.muli v7 c1_i32_2026
  let v2273 : BitVec 32 := Scalar.addi c0_i32_2027 v2272
  v2273.toNat
def k0_dev93 (d0 : Dev nD) : Nat :=
  let c0_i32_2043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2042 : BitVec 32 := 1#32
  let v2288 : BitVec 32 := Scalar.muli v5 c1_i32_2042
  let v2289 : BitVec 32 := Scalar.addi c0_i32_2043 v2288
  v2289.toNat
def k0_dev94 (d0 : Dev nD) : Nat :=
  let c0_i32_2061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2060 : BitVec 32 := 1#32
  let v2298 : BitVec 32 := Scalar.muli v7 c1_i32_2060
  let v2299 : BitVec 32 := Scalar.addi c0_i32_2061 v2298
  v2299.toNat
def k0_dev95 (d0 : Dev nD) : Nat :=
  let c0_i32_2092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2091 : BitVec 32 := 1#32
  let v2352 : BitVec 32 := Scalar.muli v5 c1_i32_2091
  let v2353 : BitVec 32 := Scalar.addi c0_i32_2092 v2352
  v2353.toNat
def k0_dev96 (d0 : Dev nD) : Nat :=
  let c0_i32_2116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2115 : BitVec 32 := 1#32
  let v2370 : BitVec 32 := Scalar.muli v7 c1_i32_2115
  let v2371 : BitVec 32 := Scalar.addi c0_i32_2116 v2370
  v2371.toNat
def k0_dev97 (d0 : Dev nD) : Nat :=
  let c0_i32_2132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2131 : BitVec 32 := 1#32
  let v2386 : BitVec 32 := Scalar.muli v5 c1_i32_2131
  let v2387 : BitVec 32 := Scalar.addi c0_i32_2132 v2386
  v2387.toNat
def k0_dev98 (d0 : Dev nD) : Nat :=
  let c0_i32_2150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2149 : BitVec 32 := 1#32
  let v2396 : BitVec 32 := Scalar.muli v7 c1_i32_2149
  let v2397 : BitVec 32 := Scalar.addi c0_i32_2150 v2396
  v2397.toNat
def k0_dev99 (d0 : Dev nD) : Nat :=
  let c0_i32_2181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2180 : BitVec 32 := 1#32
  let v2450 : BitVec 32 := Scalar.muli v5 c1_i32_2180
  let v2451 : BitVec 32 := Scalar.addi c0_i32_2181 v2450
  v2451.toNat
def k0_dev100 (d0 : Dev nD) : Nat :=
  let c0_i32_2205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2204 : BitVec 32 := 1#32
  let v2468 : BitVec 32 := Scalar.muli v7 c1_i32_2204
  let v2469 : BitVec 32 := Scalar.addi c0_i32_2205 v2468
  v2469.toNat
def k0_dev101 (d0 : Dev nD) : Nat :=
  let c0_i32_2221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2220 : BitVec 32 := 1#32
  let v2484 : BitVec 32 := Scalar.muli v5 c1_i32_2220
  let v2485 : BitVec 32 := Scalar.addi c0_i32_2221 v2484
  v2485.toNat
def k0_dev102 (d0 : Dev nD) : Nat :=
  let c0_i32_2239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2238 : BitVec 32 := 1#32
  let v2494 : BitVec 32 := Scalar.muli v7 c1_i32_2238
  let v2495 : BitVec 32 := Scalar.addi c0_i32_2239 v2494
  v2495.toNat
def k0_dev103 (d0 : Dev nD) : Nat :=
  let c0_i32_2270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2269 : BitVec 32 := 1#32
  let v2548 : BitVec 32 := Scalar.muli v5 c1_i32_2269
  let v2549 : BitVec 32 := Scalar.addi c0_i32_2270 v2548
  v2549.toNat
def k0_dev104 (d0 : Dev nD) : Nat :=
  let c0_i32_2294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2293 : BitVec 32 := 1#32
  let v2566 : BitVec 32 := Scalar.muli v7 c1_i32_2293
  let v2567 : BitVec 32 := Scalar.addi c0_i32_2294 v2566
  v2567.toNat
def k0_dev105 (d0 : Dev nD) : Nat :=
  let c0_i32_2310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2309 : BitVec 32 := 1#32
  let v2582 : BitVec 32 := Scalar.muli v5 c1_i32_2309
  let v2583 : BitVec 32 := Scalar.addi c0_i32_2310 v2582
  v2583.toNat
def k0_dev106 (d0 : Dev nD) : Nat :=
  let c0_i32_2328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2327 : BitVec 32 := 1#32
  let v2592 : BitVec 32 := Scalar.muli v7 c1_i32_2327
  let v2593 : BitVec 32 := Scalar.addi c0_i32_2328 v2592
  v2593.toNat
def k0_dev107 (d0 : Dev nD) : Nat :=
  let c0_i32_2359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2358 : BitVec 32 := 1#32
  let v2646 : BitVec 32 := Scalar.muli v5 c1_i32_2358
  let v2647 : BitVec 32 := Scalar.addi c0_i32_2359 v2646
  v2647.toNat
def k0_dev108 (d0 : Dev nD) : Nat :=
  let c0_i32_2383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2382 : BitVec 32 := 1#32
  let v2664 : BitVec 32 := Scalar.muli v7 c1_i32_2382
  let v2665 : BitVec 32 := Scalar.addi c0_i32_2383 v2664
  v2665.toNat
def k0_dev109 (d0 : Dev nD) : Nat :=
  let c0_i32_2399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2398 : BitVec 32 := 1#32
  let v2680 : BitVec 32 := Scalar.muli v5 c1_i32_2398
  let v2681 : BitVec 32 := Scalar.addi c0_i32_2399 v2680
  v2681.toNat
def k0_dev110 (d0 : Dev nD) : Nat :=
  let c0_i32_2417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2416 : BitVec 32 := 1#32
  let v2690 : BitVec 32 := Scalar.muli v7 c1_i32_2416
  let v2691 : BitVec 32 := Scalar.addi c0_i32_2417 v2690
  v2691.toNat
def k0_dev111 (d0 : Dev nD) : Nat :=
  let c0_i32_2448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2447 : BitVec 32 := 1#32
  let v2744 : BitVec 32 := Scalar.muli v5 c1_i32_2447
  let v2745 : BitVec 32 := Scalar.addi c0_i32_2448 v2744
  v2745.toNat
def k0_dev112 (d0 : Dev nD) : Nat :=
  let c0_i32_2472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2471 : BitVec 32 := 1#32
  let v2762 : BitVec 32 := Scalar.muli v7 c1_i32_2471
  let v2763 : BitVec 32 := Scalar.addi c0_i32_2472 v2762
  v2763.toNat
def k0_dev113 (d0 : Dev nD) : Nat :=
  let c0_i32_2488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2487 : BitVec 32 := 1#32
  let v2778 : BitVec 32 := Scalar.muli v5 c1_i32_2487
  let v2779 : BitVec 32 := Scalar.addi c0_i32_2488 v2778
  v2779.toNat
def k0_dev114 (d0 : Dev nD) : Nat :=
  let c0_i32_2506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2505 : BitVec 32 := 1#32
  let v2788 : BitVec 32 := Scalar.muli v7 c1_i32_2505
  let v2789 : BitVec 32 := Scalar.addi c0_i32_2506 v2788
  v2789.toNat
def k0_dev115 (d0 : Dev nD) : Nat :=
  let c0_i32_2537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2536 : BitVec 32 := 1#32
  let v2842 : BitVec 32 := Scalar.muli v5 c1_i32_2536
  let v2843 : BitVec 32 := Scalar.addi c0_i32_2537 v2842
  v2843.toNat
def k0_dev116 (d0 : Dev nD) : Nat :=
  let c0_i32_2561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2560 : BitVec 32 := 1#32
  let v2860 : BitVec 32 := Scalar.muli v7 c1_i32_2560
  let v2861 : BitVec 32 := Scalar.addi c0_i32_2561 v2860
  v2861.toNat
def k0_dev117 (d0 : Dev nD) : Nat :=
  let c0_i32_2577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2576 : BitVec 32 := 1#32
  let v2876 : BitVec 32 := Scalar.muli v5 c1_i32_2576
  let v2877 : BitVec 32 := Scalar.addi c0_i32_2577 v2876
  v2877.toNat
def k0_dev118 (d0 : Dev nD) : Nat :=
  let c0_i32_2595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2594 : BitVec 32 := 1#32
  let v2886 : BitVec 32 := Scalar.muli v7 c1_i32_2594
  let v2887 : BitVec 32 := Scalar.addi c0_i32_2595 v2886
  v2887.toNat
def k0_dev119 (d0 : Dev nD) : Nat :=
  let c0_i32_2626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2625 : BitVec 32 := 1#32
  let v2940 : BitVec 32 := Scalar.muli v5 c1_i32_2625
  let v2941 : BitVec 32 := Scalar.addi c0_i32_2626 v2940
  v2941.toNat
def k0_dev120 (d0 : Dev nD) : Nat :=
  let c0_i32_2650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2649 : BitVec 32 := 1#32
  let v2958 : BitVec 32 := Scalar.muli v7 c1_i32_2649
  let v2959 : BitVec 32 := Scalar.addi c0_i32_2650 v2958
  v2959.toNat
def k0_dev121 (d0 : Dev nD) : Nat :=
  let c0_i32_2666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2665 : BitVec 32 := 1#32
  let v2974 : BitVec 32 := Scalar.muli v5 c1_i32_2665
  let v2975 : BitVec 32 := Scalar.addi c0_i32_2666 v2974
  v2975.toNat
def k0_dev122 (d0 : Dev nD) : Nat :=
  let c0_i32_2684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2683 : BitVec 32 := 1#32
  let v2984 : BitVec 32 := Scalar.muli v7 c1_i32_2683
  let v2985 : BitVec 32 := Scalar.addi c0_i32_2684 v2984
  v2985.toNat
def k0_dev123 (d0 : Dev nD) : Nat :=
  let c0_i32_2715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2714 : BitVec 32 := 1#32
  let v3038 : BitVec 32 := Scalar.muli v5 c1_i32_2714
  let v3039 : BitVec 32 := Scalar.addi c0_i32_2715 v3038
  v3039.toNat
def k0_dev124 (d0 : Dev nD) : Nat :=
  let c0_i32_2739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2738 : BitVec 32 := 1#32
  let v3056 : BitVec 32 := Scalar.muli v7 c1_i32_2738
  let v3057 : BitVec 32 := Scalar.addi c0_i32_2739 v3056
  v3057.toNat
def k0_dev125 (d0 : Dev nD) : Nat :=
  let c0_i32_2789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2788 : BitVec 32 := 1#32
  let v3124 : BitVec 32 := Scalar.muli v5 c1_i32_2788
  let v3125 : BitVec 32 := Scalar.addi c0_i32_2789 v3124
  v3125.toNat
def k0_dev126 (d0 : Dev nD) : Nat :=
  let c0_i32_2813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2812 : BitVec 32 := 1#32
  let v3142 : BitVec 32 := Scalar.muli v7 c1_i32_2812
  let v3143 : BitVec 32 := Scalar.addi c0_i32_2813 v3142
  v3143.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x256 : Shape := ⟨2, ![16384, 256]⟩
abbrev S256x128 : Shape := ⟨2, ![256, 128]⟩
abbrev S16384x1 : Shape := ⟨2, ![16384, 1]⟩
abbrev S128x256x512 : Shape := ⟨3, ![128, 256, 512]⟩
abbrev S256x512 : Shape := ⟨2, ![256, 512]⟩
abbrev S16384x128 : Shape := ⟨2, ![16384, 128]⟩
abbrev S_ : Shape := ⟨0, ![]⟩
abbrev S16384 : Shape := ⟨1, ![16384]⟩
abbrev S16384x512 : Shape := ⟨2, ![16384, 512]⟩
abbrev S16384x2 : Shape := ⟨2, ![16384, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S16384x256x512 : Shape := ⟨3, ![16384, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S16384x1, .i32⟩
  | .hbm, ⟨3, _⟩ => ⟨S128x256x512, .f32⟩
  | .hbm, ⟨4, _⟩ => ⟨S256x512, .f32⟩
  | .hbm, ⟨5, _⟩ => ⟨S16384x128, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x128, .f32⟩
  | .hbm, ⟨16, _⟩ => ⟨S16384x128, .f32⟩
  | .hbm, ⟨17, _⟩ => ⟨S16384x512, .f32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1, .i32⟩
  | .hbm, ⟨22, _⟩ => ⟨S16384x2, .i32⟩
  | .hbm, ⟨23, _⟩ => ⟨S2, .i32⟩
  | .hbm, ⟨24, _⟩ => ⟨S_, .i32⟩
  | .hbm, ⟨25, _⟩ => ⟨S16384x2, .i32⟩
  | .hbm, ⟨26, _⟩ => ⟨S16384x2, .i1⟩
  | .hbm, ⟨27, _⟩ => ⟨S1x2, .i32⟩
  | .hbm, ⟨28, _⟩ => ⟨S16384x2, .i32⟩
  | .hbm, ⟨29, _⟩ => ⟨S16384x2, .i1⟩
  | .hbm, ⟨30, _⟩ => ⟨S16384x2, .i1⟩
  | .hbm, ⟨31, _⟩ => ⟨S_, .i1⟩
  | .hbm, ⟨32, _⟩ => ⟨S16384, .i1⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x256x512, .f32⟩
  | .hbm, ⟨49, _⟩ => ⟨S16384x256x512, .i1⟩
  | .hbm, ⟨50, _⟩ => ⟨S_, .f32⟩
  | .hbm, ⟨51, _⟩ => ⟨S16384x256x512, .f32⟩
  | .hbm, ⟨52, _⟩ => ⟨S16384x256x512, .f32⟩
  | .hbm, ⟨53, _⟩ => ⟨S16384x512, .f32⟩
  | .hbm, ⟨54, _⟩ => ⟨S16384x1, .f32⟩
  | .hbm, ⟨55, _⟩ => ⟨S16384x512, .f32⟩
  | .hbm, ⟨56, _⟩ => ⟨S16384x512, .f32⟩
  | .hbm, ⟨57, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Prog.lean ====
/- The kernel's body as a prefix, thirty-two hops of one text, and a suffix. The printed body is the
   hops unrolled; here one definition `hop h` states hop `h`, and the body is the fold of the hops. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-! ## The buffers, their slots and the semaphores -/

/-- The token buffer: two slots, each the weighted tokens and their route column. -/
abbrev xM : Memref sig .tc .vmem S2x512x384 .bf16 := Memref.whole cc0_scratch0
/-- The accumulator buffer: two slots. -/
abbrev aM : Memref sig .tc .vmem S2x512x512 .bf16 := Memref.whole cc0_scratch1

/-- The other slot. -/
abbrev oth : Fin 2 → Fin 2
  | 0 => 1
  | 1 => 0

/-- The slot of hop `h`. -/
abbrev slotOf (h : ℕ) : Fin 2 := ⟨h % 2, Nat.mod_lt _ (by decide)⟩

/-- A token slot lies in its buffer. -/
theorem inbX (s : Fin 2) : ∀ a, (![s.val, 0, 0] : Fin 3 → Nat) a + S1x512x384.size a ≤ S2x512x384.size a := by
  revert s; decide
/-- The tokens of a slot lie in the buffer. -/
theorem inbXw (s : Fin 2) : ∀ a, (![s.val, 0, 0] : Fin 3 → Nat) a + S1x512x256.size a ≤ S2x512x384.size a := by
  revert s; decide
/-- The routes of a slot lie in the buffer. -/
theorem inbXr (s : Fin 2) : ∀ a, (![s.val, 0, 256] : Fin 3 → Nat) a + S1x512x1.size a ≤ S2x512x384.size a := by
  revert s; decide
/-- An accumulator slot lies in its buffer. -/
theorem inbA (s : Fin 2) : ∀ a, (![s.val, 0, 0] : Fin 3 → Nat) a + S1x512x512.size a ≤ S2x512x512.size a := by
  revert s; decide
/-- A semaphore of a pair is one of the two. -/
theorem inbS (s : Fin 2) : ∀ a, (![s.val] : Fin 1 → Nat) a + S1.size a ≤ S2.size a := by
  revert s; decide

/-- The box of slot `s` of the token buffer. -/
abbrev boxX (s : Fin 2) : Rect S2x512x384 := Rect.unit (s := S2x512x384) ![s.val, 0, 0] S1x512x384.size (inbX s)
/-- The box of the weighted tokens in slot `s`. -/
abbrev boxXw (s : Fin 2) : Rect S2x512x384 := Rect.unit (s := S2x512x384) ![s.val, 0, 0] S1x512x256.size (inbXw s)
/-- The box of the route column in slot `s`. -/
abbrev boxXr (s : Fin 2) : Rect S2x512x384 := Rect.unit (s := S2x512x384) ![s.val, 0, 256] S1x512x1.size (inbXr s)
/-- The box of slot `s` of the accumulator buffer. -/
abbrev boxA (s : Fin 2) : Rect S2x512x512 := Rect.unit (s := S2x512x512) ![s.val, 0, 0] S1x512x512.size (inbA s)

/-- Slot `s` of the token buffer, as the copies name it. -/
abbrev xS (s : Fin 2) : Memref sig .tc .vmem S512x384 .bf16 :=
  (xM.slice (boxX s) (fun _ => rfl)).squeeze S512x384 squeezes_S1x512x384_S512x384
/-- Slot `s` of the accumulator buffer, as the copies name it. -/
abbrev aS (s : Fin 2) : Memref sig .tc .vmem S512x512 .bf16 :=
  (aM.slice (boxA s) (fun _ => rfl)).squeeze S512x512 squeezes_S1x512x512_S512x512

/-- Cell `s` of a pair of transfer semaphores. -/
abbrev semS (A : DmaSems sig S2) (s : Fin 2) : DmaSems sig S_ :=
  (A.slice (Rect.unit (s := S2) ![s.val] S1.size (inbS s))).squeeze S_ squeezes_S1_S_

abbrev sxS (s : Fin 2) : DmaSems sig S_ := semS cc0_scratch2 s
abbrev rxS (s : Fin 2) : DmaSems sig S_ := semS cc0_scratch3 s
abbrev saS (s : Fin 2) : DmaSems sig S_ := semS cc0_scratch4 s
abbrev raS (s : Fin 2) : DmaSems sig S_ := semS cc0_scratch5 s
abbrev barS : Sems sig S_ := SemArray.scalar (sig.barrier 0 rfl)

/-- A token slot is made of whole words. -/
theorem wordsX : ∀ s : Fin 2, (boxX s).WholeWords (EltTy.packing .bf16)
  | 0 => wordsbf16_S2x512x384_S1x512x384_0_0_0
  | 1 => wordsbf16_S2x512x384_S1x512x384_1_0_0
/-- An accumulator slot is made of whole words. -/
theorem wordsA : ∀ s : Fin 2, (boxA s).WholeWords (EltTy.packing .bf16)
  | 0 => wordsbf16_S2x512x512_S1x512x512_0_0_0
  | 1 => wordsbf16_S2x512x512_S1x512x512_1_0_0
/-- An accumulator slot is made of packed rows. -/
theorem packedA : ∀ s : Fin 2, (boxA s).PackedRows (EltTy.packing .bf16)
  | 0 => packedbf16_S2x512x512_S1x512x512_0_0_0
  | 1 => packedbf16_S2x512x512_S1x512x512_1_0_0

/-- A copy of a token slot moves just its words. -/
theorem exactX (s : Fin 2) : (xS s).view.WordExact :=
  ((Memref.isWhole_whole (sig := sig) cc0_scratch0).wordExact_slice rfl _ (wordsX s)).reshape _ _
/-- A copy of an accumulator slot moves just its words. -/
theorem exactA (s : Fin 2) : (aS s).view.WordExact :=
  ((Memref.isWhole_whole (sig := sig) cc0_scratch1).wordExact_slice rfl _ (wordsA s)).reshape _ _

/-! ## One hop, in the pieces the proof takes it in -/

/-- The program type of the body. -/
abbrev P (F : FTy → Type) (α : Type) := Prog (TpuEff nD τ sig (Elt F) Λ₀ .tc) α

/-- Hop `h` waits for the token block the left neighbour sent at the hop before. -/
def pRecvX (h : ℕ) : P F PUnit :=
  if 1 ≤ h then Prog.lift (.waitDma2 (rxS (slotOf h)).sem (xS (slotOf h)) (xS (slotOf h)) (exactX _) (exactX _))
  else pure ⟨⟩

/-- Hop `h` waits for the right neighbour's word that its token slot is free. -/
def pCredX (h : ℕ) : P F PUnit :=
  if 1 ≤ h ∧ h ≤ 30 then semWaitWord cc0_scratch6.sem 1#32 else pure ⟨⟩

/-- Hop `h` starts the copy of its token block into the right neighbour's other slot. -/
def pSendX (h : ℕ) (d : Dev nD) : P F PUnit :=
  if h ≤ 30 then
    Prog.lift (.enqueueDma (xS (slotOf h))
      (.remote (Dev.tc (⟨k0_dev3 d, k0_dev3_lt d⟩ : Dev nD)) (xS (oth (slotOf h))) (.dma (sxS (slotOf h)).sem))
      (.dma (rxS (oth (slotOf h))).sem) (exactX _) (exactX _) ⟨⟨rfl, Or.inl rfl⟩, trivial⟩)
  else pure ⟨⟩

/-- Hop `h` reads the weighted tokens of its slot. -/
def pLoadW (h : ℕ) : P F (Vec F S1x512x256 .bf16) :=
  Prog.lift (.load xM (boxXw (slotOf h)).toLoadRect (View.loadsAt_vmem h_S1x512x256))

/-- Hop `h` reads the route column of its slot. -/
def pLoadR (h : ℕ) : P F (Vec F S1x512x1 .bf16) :=
  Prog.lift (.load xM (boxXr (slotOf h)).toLoadRect (View.loadsAt_vmem h_S1x512x1))

/-- Hop `h` waits for its accumulator of the hop before to have left. -/
def pSentA (h : ℕ) : P F PUnit :=
  if 1 ≤ h then
    Prog.lift (.waitDma2 (saS (oth (slotOf h))).sem (aS (slotOf h)) (aS (oth (slotOf h))) (exactA _) (exactA _))
  else pure ⟨⟩

/-- Hop `h` tells the left neighbour that the accumulator slot just sent is free. -/
def pFreeA (h : ℕ) (d : Dev nD) : P F PUnit :=
  if 1 ≤ h then semSignalWord (⟨k0_dev5 d, k0_dev5_lt d⟩ : Dev nD) cc0_scratch7.sem 1#32 else pure ⟨⟩

/-- Hop `h` waits for the accumulator the left neighbour sent at the hop before. -/
def pRecvA (h : ℕ) : P F PUnit :=
  if 1 ≤ h then Prog.lift (.waitDma2 (raS (slotOf h)).sem (aS (slotOf h)) (aS (slotOf h)) (exactA _) (exactA _))
  else pure ⟨⟩

/-- Hop `h` waits for the right neighbour's word that its accumulator slot is free. -/
def pCredA (h : ℕ) : P F PUnit :=
  if 1 ≤ h then semWaitWord cc0_scratch7.sem 1#32 else pure ⟨⟩

/-- Hop `h` reads the accumulator. -/
def pLoadA (h : ℕ) : P F (Vec F S1x512x512 .bf16) :=
  Prog.lift (.load aM (boxA (slotOf h)).toLoadRect (View.loadsAt_vmem h_S1x512x512))

/-- Hop `h` stores the accumulator. -/
def pStoreA (h : ℕ) (v : Vec F S1x512x512 .bf16) : P F PUnit :=
  Prog.lift (.store aM (boxA (slotOf h)) v Finset.univ
    (View.stores_vmem h_S1x512x512 ((Memref.isWhole_whole (sig := sig) cc0_scratch1).storeExact_slice rfl _ (packedA _)) (fun _ => rfl))
    (.inl rfl))

/-- Hop `h` starts the copy of the accumulator into the right neighbour's other slot. -/
def pSendA (h : ℕ) (d : Dev nD) : P F PUnit :=
  Prog.lift (.enqueueDma (aS (slotOf h))
    (.remote (Dev.tc (⟨k0_dev4 d, k0_dev4_lt d⟩ : Dev nD)) (aS (oth (slotOf h))) (.dma (saS (slotOf h)).sem))
    (.dma (raS (oth (slotOf h))).sem) (exactA _) (exactA _) ⟨⟨rfl, Or.inl rfl⟩, trivial⟩)

/-- Hop `h` waits for its token block to have left. -/
def pSentX (h : ℕ) : P F PUnit :=
  if h ≤ 30 then
    Prog.lift (.waitDma2 (sxS (slotOf h)).sem (xS (oth (slotOf h))) (xS (slotOf h)) (exactX _) (exactX _))
  else pure ⟨⟩

/-- Hop `h` tells the left neighbour that the token slot just sent is free. -/
def pFreeX (h : ℕ) (d : Dev nD) : P F PUnit :=
  if h ≤ 29 then semSignalWord (⟨k0_dev5 d, k0_dev5_lt d⟩ : Dev nD) cc0_scratch6.sem 1#32 else pure ⟨⟩

/-- What a hop makes of the accumulator `acc`: the products of the tokens whose route is one of the four experts the
    device holds, with those experts' matrices, added to it. -/
def upd (ew : FVec F S1024x512 .bf16) (base : BitVec 32) (xb : Vec F S1x512x256 .bf16) (rt : Vec F S1x512x1 .bf16)
    (acc : Vec F S1x512x512 .bf16) : Vec F S1x512x512 .bf16 :=
  k0_pay21 (k0_pay20 ew base xb rt) acc

/-- Hop `h`. -/
def hop (h : ℕ) (d : Dev nD) (ew : FVec F S1024x512 .bf16) (base : BitVec 32) : P F PUnit := do
  pRecvX h
  pCredX h
  pSendX h d
  let xb ← pLoadW h
  let rt ← pLoadR h
  pSentA h
  pFreeA h d
  pRecvA h
  pCredA h
  let acc ← pLoadA h
  let _ ← pLoadA h
  pStoreA h (upd ew base xb rt acc)
  pSendA h d
  pSentX h
  pFreeX h d

/-- The hops from `h` on, `n` of them, then `k`. -/
def hops (d : Dev nD) (ew : FVec F S1024x512 .bf16) (base : BitVec 32) (k : P F PUnit) : ℕ → ℕ → P F PUnit
  | 0, _ => k
  | n + 1, h => do hop h d ew base; hops d ew base k n (h + 1)

/-- A device's number times four, as the kernel computes it. -/
def baseOf (d : Dev nD) : BitVec 32 := Scalar.muli (Scalar.remsi (Scalar.divsi (Dev.word d) 1#32) 32#32) 4#32

/-- The prologue: the barrier with the two neighbours, then the first token block and accumulator. -/
def prologue (arg0 : Memref sig .tc .vmem S512x256 .f32) (arg1 : Memref sig .tc .vmem S256x128 .f32)
    (arg2 : Memref sig .tc .vmem S512x1 .i32) (arg3 : Memref sig .tc .vmem S4x256x512 .f32)
    (arg4 : Memref sig .tc .vmem S256x512 .f32) (d0 : Dev nD) : P F (FVec F S1024x512 .bf16) := do
  semSignalWord (⟨k0_dev1 d0, k0_dev1_lt d0⟩ : Dev nD) barS.sem 1#32
  semSignalWord (⟨k0_dev2 d0, k0_dev2_lt d0⟩ : Dev nD) barS.sem 1#32
  semWaitWord barS.sem 2#32
  let v13 : Vec F S512x256 .f32 ← Prog.lift (.load arg0 (Rect.unit (s := S512x256) ![0, 0] S512x256.size inb_S512x256_S512x256_0_0).toLoadRect (View.loadsAt_vmem h_S512x256))
  let v15 : Vec F S256x128 .f32 ← Prog.lift (.load arg1 (Rect.unit (s := S256x128) ![0, 0] S256x128.size inb_S256x128_S256x128_0_0).toLoadRect (View.loadsAt_vmem h_S256x128))
  let v28 : Vec F S512x1 .i32 ← Prog.lift (.load arg2 (Rect.unit (s := S512x1) ![0, 0] S512x1.size inb_S512x1_S512x1_0_0).toLoadRect (View.loadsAt_vmem h_S512x1))
  let _ : Vec F S1x512x256 .bf16 ← Prog.lift (.load xM (boxXw 0).toLoadRect (View.loadsAt_vmem h_S1x512x256))
  Prog.lift (.store xM (boxXw 0) (k0_pay4 (k0_pay1 v13) (k0_pay2 v13 v15) (k0_pay3 v28)) Finset.univ (View.stores_vmem h_S1x512x256 ((Memref.isWhole_whole (sig := sig) cc0_scratch0).storeExact_slice rfl _ packedbf16_S2x512x384_S1x512x256_0_0_0) (fun _ => rfl)) (.inl rfl))
  let v42 : Vec F S512x1 .i32 ← Prog.lift (.load arg2 (Rect.unit (s := S512x1) ![0, 0] S512x1.size inb_S512x1_S512x1_0_0).toLoadRect (View.loadsAt_vmem h_S512x1))
  let _ : Vec F S1x512x1 .bf16 ← Prog.lift (.load xM (boxXr 0).toLoadRect (View.loadsAt_vmem h_S1x512x1))
  Prog.lift (.store xM (boxXr 0) (k0_pay5 v42) Finset.univ (View.stores_vmem h_S1x512x1 ((Memref.isWhole_whole (sig := sig) cc0_scratch0).storeExact_slice rfl _ packedbf16_S2x512x384_S1x512x1_0_0_256) (fun _ => rfl)) (.inl rfl))
  let v48 : Vec F S256x512 .f32 ← Prog.lift (.load arg4 (Rect.unit (s := S256x512) ![0, 0] S256x512.size inb_S256x512_S256x512_0_0).toLoadRect (View.loadsAt_vmem h_S256x512))
  let _ : Vec F S1x512x512 .bf16 ← pLoadA 0
  pStoreA 0 (k0_pay6 (k0_pay1 v13) v48)
  let v55 : Vec F S4x256x512 .f32 ← Prog.lift (.load arg3 (Rect.unit (s := S4x256x512) ![0, 0, 0] S4x256x512.size inb_S4x256x512_S4x256x512_0_0_0).toLoadRect (View.loadsAt_vmem h_S4x256x512))
  pure (k0_pay7 v55)

/-- The epilogue: the last accumulator has left and one's own has come home; it is stored as the result block. -/
def epilogue (arg5 : Memref sig .tc .vmem S512x512 .f32) : P F PUnit := do
  pSentA 32
  pRecvA 32
  let acc ← pLoadA 32
  let _ : Vec F S512x512 .f32 ← Prog.lift (.load arg5 (Rect.unit (s := S512x512) ![0, 0] S512x512.size inb_S512x512_S512x512_0_0).toLoadRect (View.loadsAt_vmem h_S512x512))
  Prog.lift (.store arg5 (Rect.unit (s := S512x512) ![0, 0] S512x512.size inb_S512x512_S512x512_0_0) (k0_pay179 acc) Finset.univ (View.stores_vmem_bits_univ h_S512x512 rfl) (.inl rfl))

/-- The kernel's body. -/
def body (arg0 : Memref sig .tc .vmem S512x256 .f32) (arg1 : Memref sig .tc .vmem S256x128 .f32)
    (arg2 : Memref sig .tc .vmem S512x1 .i32) (arg3 : Memref sig .tc .vmem S4x256x512 .f32)
    (arg4 : Memref sig .tc .vmem S256x512 .f32) (arg5 : Memref sig .tc .vmem S512x512 .f32) : P F PUnit := do
  let d ← Prog.lift .deviceId
  let ew ← prologue arg0 arg1 arg2 arg3 arg4 d
  hops d ew (baseOf d) (epilogue arg5) 32 0

set_option maxRecDepth 65536 in
set_option maxHeartbeats 4000000 in
/-- The printed body is `body`. -/
theorem body_eq (arg0 : Memref sig .tc .vmem S512x256 .f32) (harg0 : arg0.IsWhole) (arg1 : Memref sig .tc .vmem S256x128 .f32)
    (harg1 : arg1.IsWhole) (arg2 : Memref sig .tc .vmem S512x1 .i32) (harg2 : arg2.IsWhole)
    (arg3 : Memref sig .tc .vmem S4x256x512 .f32) (harg3 : arg3.IsWhole) (arg4 : Memref sig .tc .vmem S256x512 .f32)
    (harg4 : arg4.IsWhole) (arg5 : Memref sig .tc .vmem S512x512 .f32) (harg5 : arg5.IsWhole) :
    cc0_body_skel (F := F) arg0 harg0 arg1 harg1 arg2 harg2 arg3 harg3 arg4 harg4 arg5 harg5
      (Memref.whole cc0_scratch0) (Memref.isWhole_whole _) (Memref.whole cc0_scratch1) (Memref.isWhole_whole _)
      cc0_scratch2 cc0_scratch3 cc0_scratch4 cc0_scratch5 cc0_scratch6 cc0_scratch7
      = body arg0 arg1 arg2 arg3 arg4 arg5 := rfl

end Cert.KernelIdeal.Ring

end
-- ==== Proof.Proto.lean ====
/- The protocol of the two rings: the cells, the duties paid to them and what each payment hands over. -/
module

public import proofs.«01_k».proof.Proof.Prog
public import Idealize.ShloMosaic.Lib.Pipeline.Launch
public import Idealize.ShloMosaic.Lib.Pipeline.Kit
public import Idealize.ShloMosaic.Lib.Release
public import Idealize.ShloMosaic.Lib.Tactic
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- A slot of a device's buffer: `0` the token buffer, `1` the accumulator buffer; then the slot. -/
abbrev Key : Type := Dev nD × Fin 2 × Fin 2
abbrev UB : Type := URounds (GSem nD τ sig) ℕ
abbrev US : Type := Release.USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-! ## The ring of devices -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩

/-- The device before the next one. -/
theorem prv_nxt (c : Dev nD) : prv (nxt c) = c := by revert c; decide
/-- The device after the one before. -/
theorem nxt_prv (c : Dev nD) : nxt (prv c) = c := by revert c; decide
/-- The kernel's first peer is the left neighbour. -/
theorem dev1_eq (c : Dev nD) : (⟨k0_dev1 c, k0_dev1_lt c⟩ : Dev nD) = prv c := Fin.ext (k0_dev1_eq c)
/-- The kernel's second peer is the right neighbour. -/
theorem dev2_eq (c : Dev nD) : (⟨k0_dev2 c, k0_dev2_lt c⟩ : Dev nD) = nxt c := Fin.ext (k0_dev2_eq c)
/-- Tokens go to the right neighbour. -/
theorem dev3_eq (c : Dev nD) : (⟨k0_dev3 c, k0_dev3_lt c⟩ : Dev nD) = nxt c := Fin.ext (k0_dev3_eq c)
/-- Accumulators go to the right neighbour. -/
theorem dev4_eq (c : Dev nD) : (⟨k0_dev4 c, k0_dev4_lt c⟩ : Dev nD) = nxt c := Fin.ext (k0_dev4_eq c)
/-- Words about free slots go to the left neighbour. -/
theorem dev5_eq (c : Dev nD) : (⟨k0_dev5 c, k0_dev5_lt c⟩ : Dev nD) = prv c := Fin.ext (k0_dev5_eq c)

def ring : Dev nD ≃ Dev nD := ⟨nxt, prv, prv_nxt, nxt_prv⟩

/-- The other slot of the other slot. -/
theorem oth_oth (s : Fin 2) : oth (oth s) = s := by revert s; decide
/-- Successive hops take turns at the slots. -/
theorem slotOf_succ (h : ℕ) : slotOf (h + 1) = oth (slotOf h) := by
  rcases Nat.mod_two_eq_zero_or_one h with e | e
  · have e' : (h + 1) % 2 = 1 := by omega
    unfold slotOf; simp only [e, e']; rfl
  · have e' : (h + 1) % 2 = 0 := by omega
    unfold slotOf; simp only [e, e']; rfl
/-- A hop's slot is its parity. -/
theorem slotOf_val (h : ℕ) : (slotOf h).val = h % 2 := rfl
/-- The other slot's number. -/
theorem oth_val (s : Fin 2) : (oth s).val = 1 - s.val := by revert s; decide

/-! ## The cells -/

/-- The kinds of cell of a device: the barrier, the two credit counters; per slot, token sent, token received,
    accumulator sent, accumulator received. -/
abbrev CK : Type := Fin 3 ⊕ (Fin 4 × Fin 2)

abbrev kBar : CK := .inl 0
abbrev kCx : CK := .inl 1
abbrev kCa : CK := .inl 2
abbrev kSx (s : Fin 2) : CK := .inr (0, s)
abbrev kRx (s : Fin 2) : CK := .inr (1, s)
abbrev kSa (s : Fin 2) : CK := .inr (2, s)
abbrev kRa (s : Fin 2) : CK := .inr (3, s)

abbrev csem : CK → SemLoc sig
  | .inl 0 => .reg barS.sem
  | .inl 1 => .reg cc0_scratch6.sem
  | .inl 2 => .reg cc0_scratch7.sem
  | .inr (0, s) => .dma (sxS s).sem
  | .inr (1, s) => .dma (rxS s).sem
  | .inr (2, s) => .dma (saS s).sem
  | .inr (3, s) => .dma (raS s).sem

/-- Different kinds are different semaphores. -/
theorem csem_inj : Function.Injective csem := by decide

/-- The cell of kind `k` on device `c`. -/
abbrev kcell (c : Dev nD) (k : CK) : GSem nD τ sig := ((c : Thread nD τ), csem k)

/-- Different devices and kinds are different cells. -/
theorem kcell_inj : Function.Injective fun ck : Dev nD × CK => kcell ck.1 ck.2 := fun a b h => by
  obtain ⟨h1, h2⟩ := Prod.ext_iff.mp h
  have h3 := csem_inj h2
  have h4 : a.1 = b.1 := congrArg (fun t : Thread nD τ => t.1) h1
  exact Prod.ext h4 h3

open Classical in
/-- The kind of a semaphore, if it has one. -/
def kindOf (sm : SemLoc sig) : Option CK := if h : ∃ k, csem k = sm then some h.choose else none

/-- The kind of a kind's semaphore. -/
theorem kindOf_csem (k : CK) : kindOf (csem k) = some k := by
  have h : ∃ k', csem k' = csem k := ⟨k, rfl⟩
  unfold kindOf
  rw [dif_pos h]
  exact congrArg some (csem_inj h.choose_spec)

/-- The credit of a token block, and of an accumulator. -/
abbrev NX : ℕ := (xS 0).view.dmaCredit
abbrev NA : ℕ := (aS 0).view.dmaCredit
/-- A token copy pays something. -/
theorem NX_pos : 0 < NX := View.dmaCredit_pos _ (by decide)
/-- An accumulator copy pays something. -/
theorem NA_pos : 0 < NA := View.dmaCredit_pos _ (by decide)

/-! ## What goes around -/

/-- What each device starts with: the weighted tokens, the routes, the accumulator, and its experts' matrices. -/
structure Vals (F : FTy → Type) where
  w0 : Dev nD → Vec F S1x512x256 .bf16
  r0 : Dev nD → Vec F S1x512x1 .bf16
  a0 : Dev nD → Vec F S1x512x512 .bf16
  ew : Dev nD → FVec F S1024x512 .bf16

namespace Vals
variable (V : Vals F)
/-- The weighted tokens device `c` has at hop `h`. -/
def w : ℕ → Dev nD → Vec F S1x512x256 .bf16
  | 0, c => V.w0 c
  | h + 1, c => w h (prv c)
/-- The routes device `c` has at hop `h`. -/
def r : ℕ → Dev nD → Vec F S1x512x1 .bf16
  | 0, c => V.r0 c
  | h + 1, c => r h (prv c)
/-- The accumulator device `c` has before hop `h`. -/
def a : ℕ → Dev nD → Vec F S1x512x512 .bf16
  | 0, c => V.a0 c
  | h + 1, c => upd (V.ew (prv c)) (baseOf (prv c)) (w V h (prv c)) (r V h (prv c)) (a h (prv c))
/-- What device `c` makes of the accumulator at hop `h`. -/
def a' (h : ℕ) (c : Dev nD) : Vec F S1x512x512 .bf16 := upd (V.ew c) (baseOf c) (V.w h c) (V.r h c) (V.a h c)
/-- Tokens move on by a hop. -/
theorem w_nxt (h : ℕ) (c : Dev nD) : V.w (h + 1) (nxt c) = V.w h c := by
  show V.w h (prv (nxt c)) = _; rw [prv_nxt]
/-- Routes move on by a hop. -/
theorem r_nxt (h : ℕ) (c : Dev nD) : V.r (h + 1) (nxt c) = V.r h c := by
  show V.r h (prv (nxt c)) = _; rw [prv_nxt]
/-- Accumulators move on by a hop, with what the device added. -/
theorem a_nxt (h : ℕ) (c : Dev nD) : V.a (h + 1) (nxt c) = V.a' h c := by
  show upd (V.ew (prv (nxt c))) _ _ _ _ = _; rw [prv_nxt]; rfl
end Vals

/-- Device `c`'s token slot `s` at share `q`, with weighted tokens `w` and routes `r`. -/
def xH (c : Dev nD) (s : Fin 2) (q : PosShare TreeShare) (w : Vec F S1x512x256 .bf16) (r : Vec F S1x512x1 .bf16) : sProp 𝕄 :=
  iprop(∃ f : Buf (Elt F) ((xS s).view.loc (c : Thread nD τ)),
    ⌜xM.view.readAt (Elt F) (boxXw s).toLoadRect f = w ∧ xM.view.readAt (Elt F) (boxXr s).toLoadRect f = r⌝
    ∗ ((xS s).view.loc (c : Thread nD τ) ↦[(xS s).view.set]{q} f))

/-- Device `c`'s accumulator slot `s`, holding `a`. -/
def aH (c : Dev nD) (s : Fin 2) (a : Vec F S1x512x512 .bf16) : sProp 𝕄 :=
  iprop(∃ f : Buf (Elt F) ((aS s).view.loc (c : Thread nD τ)),
    ⌜aM.view.readAt (Elt F) (boxA s).toLoadRect f = a⌝
    ∗ ((aS s).view.loc (c : Thread nD τ) ↦[(aS s).view.set]{fullShare} f))

/-- Device `c`'s token slot `s`, whatever it holds. -/
def xSlot (c : Dev nD) (s : Fin 2) : sProp 𝕄 := Release.slot ((xS s).view.loc (c : Thread nD τ)) (xS s).view.set
/-- Device `c`'s accumulator slot `s`, whatever it holds. -/
def aSlot (c : Dev nD) (s : Fin 2) : sProp 𝕄 := Release.slot ((aS s).view.loc (c : Thread nD τ)) (aS s).view.set

/-- The slot of a key. -/
def keySlot (k : Key) : sProp 𝕄 := if k.2.1 = 0 then xSlot k.1 k.2.2 else aSlot k.1 k.2.2

omit [FloatOps F] in
instance xH_storable (c : Dev nD) (s : Fin 2) (q) (w r) : BI.Storable (upEmb : UEmb _ 𝕄) (xH (F := F) c s q w r) := by
  unfold xH; infer_instance
omit [FloatOps F] in
instance aH_storable (c : Dev nD) (s : Fin 2) (a) : BI.Storable (upEmb : UEmb _ 𝕄) (aH (F := F) c s a) := by
  unfold aH; infer_instance
omit [FloatOps F] in
instance xSlot_storable (c : Dev nD) (s : Fin 2) : BI.Storable (upEmb : UEmb _ 𝕄) (xSlot (F := F) c s) := by
  unfold xSlot; infer_instance
omit [FloatOps F] in
instance aSlot_storable (c : Dev nD) (s : Fin 2) : BI.Storable (upEmb : UEmb _ 𝕄) (aSlot (F := F) c s) := by
  unfold aSlot; infer_instance
omit [FloatOps F] in
instance keySlot_storable (k : Key) : BI.Storable (upEmb : UEmb _ 𝕄) (keySlot (F := F) k) := by
  unfold keySlot; split <;> infer_instance

/-! ## The word that a slot is free -/

/-- Device `c`'s word for hop `h`'s token copy into it: the slot it goes to is free, and the round is reached. -/
def factX (c : Dev nD) (h : ℕ) : sProp 𝕄 :=
  iprop(Release.released ES ((c, 0, oth (slotOf h)) : Key) (h / 2 + 1) ∗ reached ER (kcell c (kRx (oth (slotOf h)))) (h / 2))
/-- Device `c`'s word for hop `h`'s accumulator copy into it. -/
def factA (c : Dev nD) (h : ℕ) : sProp 𝕄 :=
  iprop(Release.released ES ((c, 1, oth (slotOf h)) : Key) (h / 2 + 1) ∗ reached ER (kcell c (kRa (oth (slotOf h)))) (h / 2))
/-- The words for the hops up to `n`. -/
def allX (c : Dev nD) (n : ℕ) : sProp 𝕄 := bigSep (Finset.range (n + 1)) (factX (F := F) c)
def allA (c : Dev nD) (n : ℕ) : sProp 𝕄 := bigSep (Finset.range (n + 1)) (factA (F := F) c)

omit [FloatOps F] in
instance factX_persistent (c : Dev nD) (h : ℕ) : BI.Persistent (factX (F := F) c h) := by unfold factX; infer_instance
omit [FloatOps F] in
instance factA_persistent (c : Dev nD) (h : ℕ) : BI.Persistent (factA (F := F) c h) := by unfold factA; infer_instance
omit [FloatOps F] in
instance allX_persistent (c : Dev nD) (h : ℕ) : BI.Persistent (allX (F := F) c h) := by unfold allX; infer_instance
omit [FloatOps F] in
instance allA_persistent (c : Dev nD) (h : ℕ) : BI.Persistent (allA (F := F) c h) := by unfold allA; infer_instance
omit [FloatOps F] in
instance factX_storable (c : Dev nD) (h : ℕ) : BI.Storable (upEmb : UEmb _ 𝕄) (factX (F := F) c h) := by
  unfold factX; infer_instance
omit [FloatOps F] in
instance factA_storable (c : Dev nD) (h : ℕ) : BI.Storable (upEmb : UEmb _ 𝕄) (factA (F := F) c h) := by
  unfold factA; infer_instance
omit [FloatOps F] in
instance allX_storable (c : Dev nD) (h : ℕ) : BI.Storable (upEmb : UEmb _ 𝕄) (allX (F := F) c h) := by
  unfold allX; infer_instance
omit [FloatOps F] in
instance allA_storable (c : Dev nD) (h : ℕ) : BI.Storable (upEmb : UEmb _ 𝕄) (allA (F := F) c h) := by
  unfold allA; infer_instance

omit [FloatOps F] in
/-- A fact about token slots, out of those up to a hop. -/
theorem allX_elim (c : Dev nD) {h n : ℕ} (hn : h ≤ n) : allX (F := F) c n ⊢ factX c h :=
  bigSep_elim (Finset.mem_range.mpr (by omega))
omit [FloatOps F] in
/-- A fact about accumulator slots, out of those up to a hop. -/
theorem allA_elim (c : Dev nD) {h n : ℕ} (hn : h ≤ n) : allA (F := F) c n ⊢ factA c h :=
  bigSep_elim (Finset.mem_range.mpr (by omega))
omit [FloatOps F] in
/-- Fewer facts about token slots. -/
theorem allX_mono (c : Dev nD) {h n : ℕ} (hn : h ≤ n) : allX (F := F) c n ⊢ allX c h :=
  bigSep_subset (Finset.range_subset_range.mpr (by omega))
omit [FloatOps F] in
/-- Fewer facts about accumulator slots. -/
theorem allA_mono (c : Dev nD) {h n : ℕ} (hn : h ≤ n) : allA (F := F) c n ⊢ allA c h :=
  bigSep_subset (Finset.range_subset_range.mpr (by omega))
omit [FloatOps F] in
/-- One more fact about token slots. -/
theorem allX_succ (c : Dev nD) (n : ℕ) : iprop(allX (F := F) c n ∗ factX c (n + 1)) ⊢ allX c (n + 1) := by
  unfold allX; exact sep_comm.1.trans (Entails.of_eq (bigSep_range_succ (n + 1) _).symm)
omit [FloatOps F] in
/-- One more fact about accumulator slots. -/
theorem allA_succ (c : Dev nD) (n : ℕ) : iprop(allA (F := F) c n ∗ factA c (n + 1)) ⊢ allA c (n + 1) := by
  unfold allA; exact sep_comm.1.trans (Entails.of_eq (bigSep_range_succ (n + 1) _).symm)
omit [FloatOps F] in
/-- The first fact about token slots. -/
theorem allX_zero (c : Dev nD) : factX (F := F) c 0 ⊢ allX c 0 := by
  unfold allX; rw [Nat.zero_add, Finset.range_one, bigSep_singleton]
omit [FloatOps F] in
/-- The first fact about accumulator slots. -/
theorem allA_zero (c : Dev nD) : factA (F := F) c 0 ⊢ allA c 0 := by
  unfold allA; rw [Nat.zero_add, Finset.range_one, bigSep_singleton]

/-! ## The schedule -/

/-- The duties of round `r` of a cell of kind `k`. A credit counter has one round, its duty `h` the word for hop `h`. -/
def dutiesK : CK → ℕ → Finset ℕ
  | .inl 0, r => if r = 0 then {0, 1} else ∅
  | .inl 1, r => if r = 0 then Finset.Icc 1 30 else ∅
  | .inl 2, r => if r = 0 then Finset.Icc 1 31 else ∅
  | .inr (0, s), r => if 2 * r + s.val ≤ 30 then {0} else ∅
  | .inr (1, s), r => if 2 * r + (1 - s.val) ≤ 30 then {0} else ∅
  | .inr (2, s), r => if r < 16 then {0} else ∅
  | .inr (3, s), r => if r < 16 then {0} else ∅

/-- What a duty contributes. -/
def amountK : CK → ℕ
  | .inl _ => 1
  | .inr (0, s) => NX
  | .inr (1, s) => NX
  | .inr (2, s) => NA
  | .inr (3, s) => NA

/-- Every payment is of something. -/
theorem amountK_pos : ∀ k, 0 < amountK k
  | .inl _ => Nat.one_pos
  | .inr (0, s) => NX_pos
  | .inr (1, s) => NX_pos
  | .inr (2, s) => NA_pos
  | .inr (3, s) => NA_pos

/-- What a duty hands to device `c`. -/
def payloadK (V : Vals F) (c : Dev nD) : CK → ℕ → ℕ → sProp 𝕄
  | .inl 0, _, d => if d = 0 then iprop(emp) else iprop(factX (nxt c) 0 ∗ factA (nxt c) 0)
  | .inl 1, _, d => allX (nxt c) d
  | .inl 2, _, d => allA (nxt c) d
  | .inr (0, s), r, _ => xH c s fullShare.left (V.w (2 * r + s.val) c) (V.r (2 * r + s.val) c)
  | .inr (1, s), r, _ => xH c s fullShare (V.w (2 * r + (1 - s.val) + 1) c) (V.r (2 * r + (1 - s.val) + 1) c)
  | .inr (2, s), r, _ => aSlot c s
  | .inr (3, s), r, _ => aH c s (V.a (2 * r + (1 - s.val) + 1) c)

instance payloadK_storable (V : Vals F) (c : Dev nD) : ∀ (k : CK) (r d : ℕ),
    BI.Storable (upEmb : UEmb _ 𝕄) (payloadK (F := F) V c k r d)
  | .inl 0, _, d => by unfold payloadK; dsimp only; split <;> infer_instance
  | .inl 1, _, d => by unfold payloadK; infer_instance
  | .inl 2, _, d => by unfold payloadK; infer_instance
  | .inr (0, s), r, _ => by unfold payloadK; infer_instance
  | .inr (1, s), r, _ => by unfold payloadK; infer_instance
  | .inr (2, s), r, _ => by unfold payloadK; infer_instance
  | .inr (3, s), r, _ => by unfold payloadK; infer_instance

/-- The schedule of all the cells. -/
def Rd (V : Vals F) : Schedule (GSem nD τ sig) ℕ 𝕄 where
  duties g r := match kindOf g.2 with | some k => dutiesK k r | none => ∅
  unitless _ := False
  amount g _ _ := match kindOf g.2 with | some k => amountK k | none => 1
  payload g r d := match kindOf g.2 with | some k => payloadK V g.1.1 k r d | none => iprop(emp)
  amount_pos g _ _ _ := by
    split
    · exact amountK_pos _
    · exact Nat.one_pos

instance Rd_payload_storable (V : Vals F) (g : GSem nD τ sig) (r d : ℕ) :
    BI.Storable (upEmb : UEmb _ 𝕄) ((Rd V).payload g r d) := by
  show BI.Storable upEmb (match kindOf g.2 with | some k => payloadK V g.1.1 k r d | none => iprop(emp))
  split <;> infer_instance

section Sched
variable (V : Vals F) (c : Dev nD) (k : CK) (r d : ℕ)
/-- The payments of a cell's round. -/
theorem duties_k : (Rd V).duties (kcell c k) r = dutiesK k r := by
  show (match kindOf (csem k) with | some k => dutiesK k r | none => ∅) = _
  rw [kindOf_csem]
/-- What each pays. -/
theorem amount_k : (Rd V).amount (kcell c k) r d = amountK k := by
  show (match kindOf (csem k) with | some k => amountK k | none => 1) = _
  rw [kindOf_csem]
/-- What each hands over. -/
theorem payload_k : (Rd V).payload (kcell c k) r d = payloadK V c k r d := by
  show (match kindOf (csem k) with | some k => payloadK V c k r d | none => iprop(emp)) = _
  rw [kindOf_csem]
/-- What a cell's round expects in all. -/
theorem expect_k : (Rd V).expect (kcell c k) r = (dutiesK k r).card * amountK k := by
  unfold Schedule.expect Schedule.amountOf
  rw [Finset.sum_congr rfl fun d _ => amount_k V c k r d, Finset.sum_const, duties_k, smul_eq_mul]
/-- A round with the one duty `0`: its payload. -/
theorem rest_k (h : dutiesK k r = {0}) :
    bigSep ((Rd V).duties (kcell c k) r \ ∅) (fun d => (Rd V).payload (kcell c k) r d) = payloadK V c k r 0 := by
  rw [Finset.sdiff_empty, duties_k, h, bigSep_singleton, payload_k]
/-- The barrier's round hands over the right neighbour's first facts. -/
theorem rest_bar :
    bigSep ((Rd V).duties (kcell c kBar) 0 \ ∅) (fun d => (Rd V).payload (kcell c kBar) 0 d)
      = iprop(emp ∗ (factX (nxt c) 0 ∗ factA (nxt c) 0)) := by
  rw [Finset.sdiff_empty, duties_k, show dutiesK kBar 0 = {0, 1} from rfl, bigSep_insert (by decide), bigSep_singleton, payload_k, payload_k]
  rfl
end Sched

/-! ## The invariants, known to every device -/

/-- The invariant of every cell and slot, and every cell's round zero. -/
def Ctx (V : Vals F) (K : Dev nD × CK → ℕ) (J : Key → ℕ) : sProp 𝕄 :=
  iprop(bigSep Finset.univ (fun ck : Dev nD × CK => iprop(cellInv ER (Rd V) (K ck) (kcell ck.1 ck.2) ∗ reached ER (kcell ck.1 ck.2) 0))
    ∗ bigSep Finset.univ (fun k : Key => Release.slotInv ES (J k) k (keySlot (F := F) k)))

instance Ctx_persistent (V : Vals F) (K : Dev nD × CK → ℕ) (J : Key → ℕ) : BI.Persistent (Ctx V K J) := by
  unfold Ctx; infer_instance

section
variable (V : Vals F) (K : Dev nD × CK → ℕ) (J : Key → ℕ)
/-- What all know of a cell. -/
theorem Ctx_both (c : Dev nD) (k : CK) : Ctx V K J ⊢ iprop(cellInv ER (Rd V) (K (c, k)) (kcell c k) ∗ reached ER (kcell c k) 0) := by
  have hb : bigSep Finset.univ (fun ck : Dev nD × CK => iprop(cellInv ER (Rd V) (K ck) (kcell ck.1 ck.2) ∗ reached ER (kcell ck.1 ck.2) 0))
      ⊢ iprop(cellInv ER (Rd V) (K (c, k)) (kcell c k) ∗ reached ER (kcell c k) 0) := bigSep_elim (Finset.mem_univ ((c, k) : Dev nD × CK))
  unfold Ctx
  iintro ⟨H, -⟩
  iapply hb
  iexact H
/-- A cell's invariant, of what all know. -/
theorem Ctx_cell (c : Dev nD) (k : CK) : Ctx V K J ⊢ cellInv ER (Rd V) (K (c, k)) (kcell c k) := by
  refine (Ctx_both V K J c k).trans ?_
  iintro ⟨H, -⟩
  iexact H
/-- A cell's round 0 has begun. -/
theorem Ctx_reached (c : Dev nD) (k : CK) : Ctx V K J ⊢ reached ER (kcell c k) 0 := by
  refine (Ctx_both V K J c k).trans ?_
  iintro ⟨-, H⟩
  iexact H
/-- A slot's invariant, of what all know. -/
theorem Ctx_slot (k : Key) : Ctx V K J ⊢ Release.slotInv ES (J k) k (keySlot (F := F) k) := by
  have hb : bigSep Finset.univ (fun k : Key => Release.slotInv ES (J k) k (keySlot (F := F) k))
      ⊢ Release.slotInv ES (J k) k (keySlot (F := F) k) := bigSep_elim (Finset.mem_univ k)
  unfold Ctx
  iintro ⟨-, H⟩
  iapply hb
  iexact H
end

/-! ## What is owed, and the order of the waits -/

/-- The indices of the payments lie below this bound. -/
def L (g : GSem nD τ sig) : Finset ℕ := if g.1.2 = .tc then Finset.range 1000 else ∅
def lv (_ : GSem nD τ sig) (i : ℕ) : ℕ := i
/-- Only the devices' own threads have cells with levels. -/
theorem L_of_ne (g : GSem nD τ sig) (h : g.1.2 ≠ .tc) : L g = ∅ := if_neg h

/-- Every payment owed in `O` is at an index above `b`. -/
def Above (b : ℕ) (O : CellTallies nD τ sig ℕ) : Prop :=
  ∀ g i, 0 < O g i → g.1.2 = .tc ∧ b < i ∧ i < 1000

/-- Above a level is above a lower one. -/
theorem Above.mono {b b' : ℕ} {O : CellTallies nD τ sig ℕ} (h : Above b O) (hb : b' ≤ b) : Above b' O :=
  fun g i hg => ⟨(h g i hg).1, by have := (h g i hg).2.1; omega, (h g i hg).2.2⟩
/-- Nothing owed lies above every level. -/
theorem Above.zero (b : ℕ) : Above b 0 := fun g i hg => absurd hg (by simp)
/-- Two debts above a level, together. -/
theorem Above.add {b : ℕ} {O O' : CellTallies nD τ sig ℕ} (h : Above b O) (h' : Above b O') : Above b (O + O') := fun g i hg => by
  rw [Pi.add_apply, Finsupp.add_apply] at hg
  rcases Nat.add_pos_iff_pos_or_pos.mp hg with hg | hg
  · exact h g i hg
  · exact h' g i hg
/-- Debts above a level, summed. -/
theorem Above.sum {b : ℕ} {α : Type} {s : Finset α} {D : α → CellTallies nD τ sig ℕ} (h : ∀ x ∈ s, Above b (D x)) :
    Above b (∑ x ∈ s, D x) := fun g i hg => by
  obtain ⟨x, hx, hxg⟩ := Pipeline.sum_pos_exists hg
  exact h x hx g i hxg
/-- One debt above a level. -/
theorem Above.tallyAt {b : ℕ} {c : Dev nD} {sm : SemLoc sig} {i n : ℕ} (hb : b < i) (hi : i < 1000) :
    Above b (tallyAt ((c : Thread nD τ), sm) i n) := fun g j hg => by
  rw [tallyAt_apply] at hg
  split at hg
  · rename_i hgj
    obtain ⟨rfl, rfl⟩ := hgj
    exact ⟨rfl, hb, hi⟩
  · exact absurd hg (by simp)

omit [FloatOps F] in
/-- A wait at index `b` while what is owed lies above it. -/
theorem mayWait_of_above (c : Dev nD) (sm : SemLoc sig) {b : ℕ} (hb : b < 1000) {O : CellTallies nD τ sig ℕ} (h : Above b O) :
    (levAts L lv : sProp 𝕄) ⊢ MayWait (c : Thread nD τ) sm b O :=
  Pipeline.mayWait_of_levAts (by unfold L; rw [if_pos rfl]; exact Finset.mem_range.mpr hb)
    fun g i hg => ⟨by unfold L; rw [if_pos (h g i hg).1]; exact Finset.mem_range.mpr (h g i hg).2.2, (h g i hg).2.1⟩

/-- What device `c` owes for hop `h`: the token copy, the two words and the accumulator copy, in the order it pays them. -/
def oX (c : Dev nD) (h : ℕ) : CellTallies nD τ sig ℕ :=
  if h ≤ 30 then tallyAt (kcell (nxt c) (kRx (oth (slotOf h)))) (16 * h + 4) NX else 0
def oCa (c : Dev nD) (h : ℕ) : CellTallies nD τ sig ℕ :=
  if 1 ≤ h then tallyAt (kcell (prv c) kCa) (16 * h + 6) 1 else 0
def oA (c : Dev nD) (h : ℕ) : CellTallies nD τ sig ℕ :=
  tallyAt (kcell (nxt c) (kRa (oth (slotOf h)))) (16 * h + 9) NA
def oCx (c : Dev nD) (h : ℕ) : CellTallies nD τ sig ℕ :=
  if h ≤ 29 then tallyAt (kcell (prv c) kCx) (16 * h + 11) 1 else 0
/-- What is owed for the hops from `h` on. -/
def oRest (c : Dev nD) (h : ℕ) : CellTallies nD τ sig ℕ := ∑ k ∈ Finset.Ico h 32, (oX c k + oCa c k + oA c k + oCx c k)

/-- What is owed from a hop on: that hop's debts and the rest. -/
theorem oRest_succ (c : Dev nD) {h : ℕ} (hh : h < 32) :
    oRest c h = oRest c (h + 1) + oCx c h + oA c h + oCa c h + oX c h := by
  unfold oRest
  rw [show Finset.Ico h 32 = insert h (Finset.Ico (h + 1) 32) from by ext x; simp only [Finset.mem_insert, Finset.mem_Ico]; omega,
    Finset.sum_insert (by simp)]
  ac_rfl
/-- Nothing is owed after the last hop. -/
theorem oRest_last (c : Dev nD) : oRest c 32 = 0 := by
  unfold oRest; rw [Finset.Ico_self, Finset.sum_empty]

/-- The debt of a token copy lies above the waits before it. -/
theorem above_oX (c : Dev nD) {h b : ℕ} (hb : b < 16 * h + 4) : Above b (oX c h) := by
  unfold oX; split
  · exact Above.tallyAt hb (by omega)
  · exact Above.zero _
/-- The debt of a word about an accumulator slot lies above the waits before it. -/
theorem above_oCa (c : Dev nD) {h b : ℕ} (hh : h < 32) (hb : b < 16 * h + 6) : Above b (oCa c h) := by
  unfold oCa; split
  · exact Above.tallyAt hb (by omega)
  · exact Above.zero _
/-- The debt of an accumulator copy lies above the waits before it. -/
theorem above_oA (c : Dev nD) {h b : ℕ} (hh : h < 32) (hb : b < 16 * h + 9) : Above b (oA c h) := by
  unfold oA; exact Above.tallyAt hb (by omega)
/-- The debt of a word about a token slot lies above the waits before it. -/
theorem above_oCx (c : Dev nD) {h b : ℕ} (hb : b < 16 * h + 11) : Above b (oCx c h) := by
  unfold oCx; split
  · exact Above.tallyAt hb (by omega)
  · exact Above.zero _
/-- All debts from a hop on lie above the waits before it. -/
theorem above_oRest (c : Dev nD) {h b : ℕ} (hb : b < 16 * h + 4) : Above b (oRest c h) := by
  unfold oRest
  refine Above.sum fun k hk => ?_
  obtain ⟨h1, h2⟩ := Finset.mem_Ico.mp hk
  exact (((above_oX c (by omega)).add (above_oCa c h2 (by omega))).add (above_oA c h2 (by omega))).add (above_oCx c (by omega))

end Cert.KernelIdeal.Ring

end
-- ==== Proof.Slots.lean ====
/- Reading and writing the slots of the two buffers: a copy between slots carries what a load reads. -/
module

public import proofs.«01_k».proof.Proof.Proto
public import Idealize.ShloMosaic.Lib.Pointwise.Reshape

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI

variable {F : FTy → Type} [FloatOps F]

/-- A token slot as three axes. -/
theorem castX : (S1x512x384 : Shape).ShapeCasts S512x384 := by decide
/-- A token slot as three axes. -/
theorem castX' : (S512x384 : Shape).ShapeCasts S1x512x384 := by decide
/-- An accumulator slot as three axes. -/
theorem castA : (S1x512x512 : Shape).ShapeCasts S512x512 := by decide
/-- An accumulator slot as three axes. -/
theorem castA' : (S512x512 : Shape).ShapeCasts S1x512x512 := by decide

/-- The place of a weighted token's entry in its slot. -/
def inW (j : S1x512x256.Idx) : S1x512x384.Idx := (Rect.unit (s := S1x512x384) ![0, 0, 0] S1x512x256.size (by decide)).toLoadRect.idx j
/-- The place of a route in its slot. -/
def inR (j : S1x512x1.Idx) : S1x512x384.Idx := (Rect.unit (s := S1x512x384) ![0, 0, 256] S1x512x1.size (by decide)).toLoadRect.idx j

omit [FloatOps F] in
/-- The tokens of a slot are a part of the slot. -/
theorem readAt_W (s : Fin 2) (f : xM.view.ty.Contents (Elt F)) :
    xM.view.readAt (Elt F) (boxXw s).toLoadRect f = fun j => xM.view.readAt (Elt F) (boxX s).toLoadRect f (inW j) := by
  funext j
  rw [View.readAt_apply, View.readAt_apply]
  refine congrArg _ (funext fun a => Fin.ext ?_)
  fin_cases a
  · have h0 : (j 0).val = 0 := by have := (j 0).isLt; change _ < 1 at this; omega
    simp [LoadRect.idx, Rect.unit, inW, h0]
  · simp [LoadRect.idx, Rect.unit, inW]
  · simp [LoadRect.idx, Rect.unit, inW]
omit [FloatOps F] in
/-- The routes of a slot are a part of the slot. -/
theorem readAt_R (s : Fin 2) (f : xM.view.ty.Contents (Elt F)) :
    xM.view.readAt (Elt F) (boxXr s).toLoadRect f = fun j => xM.view.readAt (Elt F) (boxX s).toLoadRect f (inR j) := by
  funext j
  rw [View.readAt_apply, View.readAt_apply]
  refine congrArg _ (funext fun a => Fin.ext ?_)
  fin_cases a
  · have h0 : (j 0).val = 0 := by have := (j 0).isLt; change _ < 1 at this; omega
    simp [LoadRect.idx, Rect.unit, inR, h0]
  · simp [LoadRect.idx, Rect.unit, inR]
  · simp [LoadRect.idx, Rect.unit, inR]

omit [FloatOps F] in
/-- A token slot read as a box is the slot read as a copy reads it. -/
theorem readAt_X (s : Fin 2) (f : xM.view.ty.Contents (Elt F)) :
    xM.view.readAt (Elt F) (boxX s).toLoadRect f = shapeCast S1x512x384 ((xS s).view.read (Elt F) f) castX' := by
  have h2 : (xS s).view.read (Elt F) f = shapeCast S512x384 (xM.view.readAt (Elt F) (boxX s).toLoadRect f) castX := rfl
  rw [h2]
  exact ((shapeCast_comp _ castX castX').trans (shapeCast_id _ _)).symm
omit [FloatOps F] in
/-- An accumulator slot read as a box is the slot read as a copy reads it. -/
theorem readAt_A (s : Fin 2) (f : aM.view.ty.Contents (Elt F)) :
    aM.view.readAt (Elt F) (boxA s).toLoadRect f = shapeCast S1x512x512 ((aS s).view.read (Elt F) f) castA' := by
  have h2 : (aS s).view.read (Elt F) f = shapeCast S512x512 (aM.view.readAt (Elt F) (boxA s).toLoadRect f) castA := rfl
  rw [h2]
  exact ((shapeCast_comp _ castA castA').trans (shapeCast_id _ _)).symm

omit [FloatOps F] in
/-- A token block copied from slot `s` to slot `t` reads the same. -/
theorem copied_X (s t : Fin 2) (f g : xM.view.ty.Contents (Elt F)) :
    xM.view.readAt (Elt F) (boxX t).toLoadRect ((xS t).view.write (Elt F) g ((xS s).view.read (Elt F) f) Finset.univ)
      = xM.view.readAt (Elt F) (boxX s).toLoadRect f := by
  rw [readAt_X, readAt_X, View.read_write_univ]
omit [FloatOps F] in
/-- A copied accumulator slot reads as its source. -/
theorem copied_A (s t : Fin 2) (f g : aM.view.ty.Contents (Elt F)) :
    aM.view.readAt (Elt F) (boxA t).toLoadRect ((aS t).view.write (Elt F) g ((aS s).view.read (Elt F) f) Finset.univ)
      = aM.view.readAt (Elt F) (boxA s).toLoadRect f := by
  rw [readAt_A, readAt_A, View.read_write_univ]
omit [FloatOps F] in
/-- The tokens of a copied slot read as the source's. -/
theorem copied_W (s t : Fin 2) (f g : xM.view.ty.Contents (Elt F)) :
    xM.view.readAt (Elt F) (boxXw t).toLoadRect ((xS t).view.write (Elt F) g ((xS s).view.read (Elt F) f) Finset.univ)
      = xM.view.readAt (Elt F) (boxXw s).toLoadRect f := by
  rw [readAt_W, readAt_W, copied_X]
omit [FloatOps F] in
/-- The routes of a copied slot read as the source's. -/
theorem copied_R (s t : Fin 2) (f g : xM.view.ty.Contents (Elt F)) :
    xM.view.readAt (Elt F) (boxXr t).toLoadRect ((xS t).view.write (Elt F) g ((xS s).view.read (Elt F) f) Finset.univ)
      = xM.view.readAt (Elt F) (boxXr s).toLoadRect f := by
  rw [readAt_R, readAt_R, copied_X]

omit [FloatOps F] in
/-- A token slot's elements are its box's. -/
theorem setX (s : Fin 2) : (xS s).view.set = (boxX s).set :=
  (View.set_reshape _ _).trans (View.set_slice_whole cc0_scratch0 (boxX s))
omit [FloatOps F] in
/-- An accumulator slot's elements are its box's. -/
theorem setA (s : Fin 2) : (aS s).view.set = (boxA s).set :=
  (View.set_reshape _ _).trans (View.set_slice_whole cc0_scratch1 (boxA s))

omit [FloatOps F] in
/-- Storing a slot's tokens writes inside the slot. -/
theorem subW (s : Fin 2) : xM.view.setOn (boxXw s).toLoadRect.set ⊆ (xS s).view.set :=
  (Memref.setOn_subset_slice_of_within xM (boxX s) (fun _ => rfl) _ (by revert s; decide)).trans
    (Finset.subset_of_eq (View.set_reshape _ _).symm)
omit [FloatOps F] in
/-- Storing a slot's routes writes inside the slot. -/
theorem subR (s : Fin 2) : xM.view.setOn (boxXr s).toLoadRect.set ⊆ (xS s).view.set :=
  (Memref.setOn_subset_slice_of_within xM (boxX s) (fun _ => rfl) _ (by revert s; decide)).trans
    (Finset.subset_of_eq (View.set_reshape _ _).symm)
omit [FloatOps F] in
/-- Storing an accumulator writes inside its slot. -/
theorem subA (s : Fin 2) : aM.view.setOn (boxA s).toLoadRect.set ⊆ (aS s).view.set :=
  (Memref.setOn_subset_slice_of_within aM (boxA s) (fun _ => rfl) _ (by revert s; decide)).trans
    (Finset.subset_of_eq (View.set_reshape _ _).symm)
omit [FloatOps F] in
/-- Storing a slot's tokens writes inside the slot. -/
theorem subW' (s : Fin 2) : (xM.access (boxXw s)).setOn Finset.univ ⊆ (xS s).view.set := by
  refine (View.set_slice _ _).le.trans ?_
  exact subW s
omit [FloatOps F] in
/-- Storing a slot's routes writes inside the slot. -/
theorem subR' (s : Fin 2) : (xM.access (boxXr s)).setOn Finset.univ ⊆ (xS s).view.set := by
  refine (View.set_slice _ _).le.trans ?_
  exact subR s
omit [FloatOps F] in
/-- Storing an accumulator writes inside its slot. -/
theorem subA' (s : Fin 2) : (aM.access (boxA s)).setOn Finset.univ ⊆ (aS s).view.set := by
  refine (View.set_slice _ _).le.trans ?_
  exact subA s

omit [FloatOps F] in
/-- A load through a box after a store through it reads what was stored. -/
theorem stored_W (s : Fin 2) (f : xM.view.ty.Contents (Elt F)) (v : S1x512x256.Idx → Elt F .bf16) :
    xM.view.readAt (Elt F) (boxXw s).toLoadRect ((xM.access (boxXw s)).write (Elt F) f v Finset.univ) = v := by
  rw [View.readAt_rect]; exact View.read_write_univ _ _
omit [FloatOps F] in
/-- Stored routes are read back. -/
theorem stored_R (s : Fin 2) (f : xM.view.ty.Contents (Elt F)) (v : S1x512x1.Idx → Elt F .bf16) :
    xM.view.readAt (Elt F) (boxXr s).toLoadRect ((xM.access (boxXr s)).write (Elt F) f v Finset.univ) = v := by
  rw [View.readAt_rect]; exact View.read_write_univ _ _
omit [FloatOps F] in
/-- A stored accumulator is read back. -/
theorem stored_A (s : Fin 2) (f : aM.view.ty.Contents (Elt F)) (v : S1x512x512.Idx → Elt F .bf16) :
    aM.view.readAt (Elt F) (boxA s).toLoadRect ((aM.access (boxA s)).write (Elt F) f v Finset.univ) = v := by
  rw [View.readAt_rect]; exact View.read_write_univ _ _
omit [FloatOps F] in
/-- Storing the routes leaves the weighted tokens. -/
theorem kept_W (s : Fin 2) (f : xM.view.ty.Contents (Elt F)) (v : S1x512x1.Idx → Elt F .bf16) :
    xM.view.readAt (Elt F) (boxXw s).toLoadRect ((xM.access (boxXr s)).write (Elt F) f v Finset.univ)
      = xM.view.readAt (Elt F) (boxXw s).toLoadRect f := by
  refine View.readAt_congr (v := xM.view) fun i hi => ?_
  refine View.write_of_not_mem _ _ _ fun hi' => ?_
  have h1 : i ∈ (boxXw s).set := by
    obtain ⟨x, hx, rfl⟩ := Finset.mem_map.mp hi
    exact hx
  have h2 : i ∈ (boxXr s).set := by rw [← View.set_slice_whole cc0_scratch0 (boxXr s)]; exact hi'
  obtain ⟨a, ha, e⟩ := (LoadRect.mem_set _).mp h1 2
  obtain ⟨b, hb, e'⟩ := (LoadRect.mem_set _).mp h2 2
  simp [Rect.unit] at ha e e'
  omega

end Cert.KernelIdeal.Ring

end
-- ==== Proof.Pieces.lean ====
/- The pieces of a hop, each at a symbolic hop and a symbolic device. -/
module

public import proofs.«01_k».proof.Proof.Slots

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a program of device `c`. -/
abbrev WP (c : Dev nD) {α : Type} (p : P F α) (Q : α → sProp 𝕄) : sProp 𝕄 :=
  wp frame (wpE (defs₀ (F := F)) 𝒱₀ (c : Thread nD τ) none) Set.univ p Q

/-- A device's position in a cell: at the start of round `r`, which is reached. -/
def pos (c : Dev nD) (k : CK) (r : ℕ) : sProp 𝕄 := iprop(atPos ER (kcell c k) r ∅ 0 ∗ reached ER (kcell c k) r)
/-- What device `c` owes, whatever it has waited for. -/
def owesE (c : Dev nD) (O : CellTallies nD τ sig ℕ) : sProp 𝕄 := iprop(∃ W, owes (c : Thread nD τ) O W)
/-- A resource held on a condition. -/
def opt (p : Prop) [Decidable p] (R : sProp 𝕄) : sProp 𝕄 := if p then R else iprop(emp)

/-- All that every device knows throughout. -/
def Know (V : Vals F) (K : Dev nD × CK → ℕ) (J : Key → ℕ) : sProp 𝕄 := iprop(Ctx V K J ∗ levAts L lv)
instance Know_persistent (V : Vals F) (K : Dev nD × CK → ℕ) (J : Key → ℕ) : BI.Persistent (Know V K J) := by
  unfold Know; infer_instance

omit [FloatOps F] in
/-- A part that applies. -/
theorem opt_pos {p : Prop} [Decidable p] {R : sProp 𝕄} (h : p) : opt p R = R := if_pos h
omit [FloatOps F] in
/-- A part that does not. -/
theorem opt_neg {p : Prop} [Decidable p] {R : sProp 𝕄} (h : ¬p) : opt p R = iprop(emp) := if_neg h

variable (V : Vals F) (K : Dev nD × CK → ℕ) (J : Key → ℕ) (c : Dev nD)

/-- A wait for a round with one duty, at an index below all that is owed: the duty's payload. -/
theorem wait_one {w : TpuEff nD τ sig (Elt F) Λ₀ (c : Thread nD τ).2 PUnit} (k : CK)
    (hw : ∀ K' : PUnit → sProp 𝕄, wpE (defs₀ (F := F)) 𝒱₀ (c : Thread nD τ) none Set.univ w K'
      = waitSpec (c : Thread nD τ) Set.univ (csem k) (amountK k) K')
    {r : ℕ} (hd : dutiesK k r = {0}) {i : ℕ} (hi : i < 1000) {O : CellTallies nD τ sig ℕ} (hO : Above i O)
    {α : Type} {Q : α → sProp 𝕄} {kk : PUnit → P F α} :
    iprop(Know V K J ∗ cred (tallyAt (kcell c k) i (amountK k)) ∗ owesE c O ∗ pos c k r)
      ⊢ iprop(((owesE c O ∗ pos c k (r + 1) ∗ payloadK V c k r 0) -∗ WP c (kk ⟨⟩) Q) -∗ WP c (.op w kk) Q) := by
  unfold Know owesE pos
  iintro ⟨⟨#HC, #Hlev⟩, Hc, ⟨%W, HO⟩, Hat, -⟩ Hk
  ihave #Hinv := (Ctx_cell V K J c k) $$ HC
  iapply (Rounds.wp_wait_rest_token 𝒱₀ ER (Rd V) (c : Thread nD τ) none (κ := K (c, k)) hw (Set.mem_univ _) i
    (O := O) (W := W) (R := r) (m := 0) (T := ∅) (by rw [expect_k, hd, Finset.card_singleton, Nat.zero_add, Nat.one_mul])) $$ [Hc HO Hat]
  · isplitr; · iexact Hinv
    isplitl [Hc]; · iexact Hc
    isplitl [HO]; · iexact HO
    isplitr; · iapply (mayWait_of_above c (csem k) hi hO); iexact Hlev
    iexact Hat
  iintro ⟨HO, Hat, Hr, Hpay⟩
  iapply Hk
  isplitl [HO]; · iexists _; iexact HO
  isplitl [Hat Hr]
  · isplitl [Hat] <;> iassumption
  iapply (Entails.of_eq (rest_k V c k r hd))
  iexact Hpay

/-! ## The payloads at a hop -/

section
variable (h : ℕ)
/-- A hop, from the round of its own slot. -/
theorem hop_own : 2 * (h / 2) + (slotOf h).val = h := by rw [slotOf_val]; omega
/-- A hop, from the round of the other slot. -/
theorem hop_oth : 2 * (h / 2) + (1 - (oth (slotOf h)).val) = h := by rw [oth_val, slotOf_val]; omega
/-- A hop, from the round of the hop before. -/
theorem hop_prev (h1 : 1 ≤ h) : 2 * ((h - 1) / 2) + (1 - (slotOf h).val) + 1 = h := by rw [slotOf_val]; omega

/-- A token copy that has been read hands back the half of its source. -/
theorem pay_sx : payloadK V c (kSx (slotOf h)) (h / 2) 0 = xH c (slotOf h) fullShare.left (V.w h c) (V.r h c) := by
  show xH c (slotOf h) fullShare.left (V.w (2 * (h / 2) + (slotOf h).val) c) (V.r (2 * (h / 2) + (slotOf h).val) c) = _
  rw [hop_own]
/-- What a hop receives of tokens and routes. -/
theorem pay_rx : payloadK V c (kRx (oth (slotOf h))) (h / 2) 0 = xH c (oth (slotOf h)) fullShare (V.w (h + 1) c) (V.r (h + 1) c) := by
  show xH c (oth (slotOf h)) fullShare (V.w (2 * (h / 2) + (1 - (oth (slotOf h)).val) + 1) c)
    (V.r (2 * (h / 2) + (1 - (oth (slotOf h)).val) + 1) c) = _
  rw [hop_oth]
/-- What a hop receives of tokens and routes. -/
theorem pay_rx' (h1 : 1 ≤ h) : payloadK V c (kRx (slotOf h)) ((h - 1) / 2) 0 = xH c (slotOf h) fullShare (V.w h c) (V.r h c) := by
  show xH c (slotOf h) fullShare (V.w (2 * ((h - 1) / 2) + (1 - (slotOf h).val) + 1) c)
    (V.r (2 * ((h - 1) / 2) + (1 - (slotOf h).val) + 1) c) = _
  rw [hop_prev h h1]
/-- The accumulator that a hop receives. -/
theorem pay_ra : payloadK V c (kRa (oth (slotOf h))) (h / 2) 0 = aH c (oth (slotOf h)) (V.a (h + 1) c) := by
  show aH c (oth (slotOf h)) (V.a (2 * (h / 2) + (1 - (oth (slotOf h)).val) + 1) c) = _
  rw [hop_oth]
/-- The accumulator that a hop receives. -/
theorem pay_ra' (h1 : 1 ≤ h) : payloadK V c (kRa (slotOf h)) ((h - 1) / 2) 0 = aH c (slotOf h) (V.a h c) := by
  show aH c (slotOf h) (V.a (2 * ((h - 1) / 2) + (1 - (slotOf h).val) + 1) c) = _
  rw [hop_prev h h1]

/-- One payment a round for a token slot sent. -/
theorem duty_sx (hh : h ≤ 30) : dutiesK (kSx (slotOf h)) (h / 2) = {0} := by
  show (if 2 * (h / 2) + (slotOf h).val ≤ 30 then _ else _) = _
  rw [hop_own, if_pos hh]
/-- One payment in the round that a hop waits for. -/
theorem duty_rx (hh : h ≤ 30) : dutiesK (kRx (oth (slotOf h))) (h / 2) = {0} := by
  show (if 2 * (h / 2) + (1 - (oth (slotOf h)).val) ≤ 30 then _ else _) = _
  rw [hop_oth, if_pos hh]
/-- One payment in the round that a hop waits for. -/
theorem duty_rx' (h1 : 1 ≤ h) (hh : h ≤ 31) : dutiesK (kRx (slotOf h)) ((h - 1) / 2) = {0} := by
  have := hop_prev h h1
  show (if 2 * ((h - 1) / 2) + (1 - (slotOf h).val) ≤ 30 then _ else _) = _
  rw [if_pos (by omega)]
/-- One payment a round for an accumulator sent. -/
theorem duty_sa (s : Fin 2) (r : ℕ) (hr : r < 16) : dutiesK (kSa s) r = {0} := by
  show (if r < 16 then _ else _) = _
  rw [if_pos hr]
/-- One payment a round for an accumulator received. -/
theorem duty_ra (s : Fin 2) (r : ℕ) (hr : r < 16) : dutiesK (kRa s) r = {0} := by
  show (if r < 16 then _ else _) = _
  rw [if_pos hr]
end

/-! ## The copies -/

/-- What device `c` needs to start hop `h`'s token copy. -/
def tokX (h : ℕ) : sProp 𝕄 :=
  iprop(dutyTok ER (kcell c (kSx (slotOf h))) (h / 2) 0 ∗ dutyTok ER (kcell (nxt c) (kRx (oth (slotOf h)))) (h / 2) 0
    ∗ Release.writeTok ES ((nxt c, 0, oth (slotOf h)) : Key) (h / 2 + 1))
/-- What device `c` needs to start hop `h`'s accumulator copy. -/
def tokA (h : ℕ) : sProp 𝕄 :=
  iprop(dutyTok ER (kcell c (kSa (slotOf h))) (h / 2) 0 ∗ dutyTok ER (kcell (nxt c) (kRa (oth (slotOf h)))) (h / 2) 0
    ∗ Release.writeTok ES ((nxt c, 1, oth (slotOf h)) : Key) (h / 2 + 1))

omit [FloatOps F] in
/-- A token slot handed over: its contents. -/
theorem keySlot_x (s : Fin 2) : keySlot (F := F) (c, 0, s) ⊢ iprop(∃ f : Buf (Elt F) ((xS s).view.loc (c : Thread nD τ)),
    (xS s).view.loc (c : Thread nD τ) ↦[(xS s).view.set]{fullShare} f) := by
  unfold keySlot; rw [if_pos rfl]; exact Entails.of_eq rfl
omit [FloatOps F] in
/-- An accumulator slot handed over: its contents. -/
theorem keySlot_a (s : Fin 2) : keySlot (F := F) (c, 1, s) ⊢ iprop(∃ f : Buf (Elt F) ((aS s).view.loc (c : Thread nD τ)),
    (aS s).view.loc (c : Thread nD τ) ↦[(aS s).view.set]{fullShare} f) := by
  unfold keySlot; rw [if_neg (by decide : ¬ ((1 : Fin 2) = 0))]; exact Entails.of_eq rfl

/-- A token copy pays its bytes. -/
theorem amtX (s : Fin 2) (q : DmaSem sig) : (xS s).view.amount (.dma q : SemLoc sig) = NX := rfl
/-- An accumulator copy pays its bytes. -/
theorem amtA (s : Fin 2) (q : DmaSem sig) : (aS s).view.amount (.dma q : SemLoc sig) = NA := rfl

omit [FloatOps F] in
/-- A token block copied into slot `t` of device `n`. -/
theorem xH_copied (n : Dev nD) (s t : Fin 2) (w : Vec F S1x512x256 .bf16) (r : Vec F S1x512x1 .bf16)
    (fs : Buf (Elt F) ((xS s).view.loc (c : Thread nD τ))) (fd : Buf (Elt F) ((xS t).view.loc (n : Thread nD τ)))
    (hfs : xM.view.readAt (Elt F) (boxXw s).toLoadRect fs = w ∧ xM.view.readAt (Elt F) (boxXr s).toLoadRect fs = r) :
    ((xS t).view.loc (n : Thread nD τ) ↦[(xS t).view.set]{fullShare}
      ((xS t).view.write (Elt F) fd ((xS s).view.read (Elt F) fs) Finset.univ) : sProp 𝕄) ⊢ xH n t fullShare w r := by
  have h1 := (copied_W s t fs fd).trans hfs.1
  have h2 := (copied_R s t fs fd).trans hfs.2
  unfold xH
  iintro H
  iexists ((xS t).view.write (Elt F) fd ((xS s).view.read (Elt F) fs) Finset.univ)
  isplitr
  · ipureintro; exact ⟨h1, h2⟩
  iexact H
omit [FloatOps F] in
/-- An accumulator copied into slot `t` of device `n`. -/
theorem aH_copied (n : Dev nD) (s t : Fin 2) (a : Vec F S1x512x512 .bf16)
    (fs : Buf (Elt F) ((aS s).view.loc (c : Thread nD τ))) (fd : Buf (Elt F) ((aS t).view.loc (n : Thread nD τ)))
    (hfs : aM.view.readAt (Elt F) (boxA s).toLoadRect fs = a) :
    ((aS t).view.loc (n : Thread nD τ) ↦[(aS t).view.set]{fullShare}
      ((aS t).view.write (Elt F) fd ((aS s).view.read (Elt F) fs) Finset.univ) : sProp 𝕄) ⊢ aH n t a := by
  have h1 := (copied_A s t fs fd).trans hfs
  unfold aH
  iintro H
  iexists ((aS t).view.write (Elt F) fd ((aS s).view.read (Elt F) fs) Finset.univ)
  isplitr
  · ipureintro; exact h1
  iexact H

/-- The token copy of hop `h`, to `n`, the right neighbour: half the source stays with the sender. -/
theorem send_x (n : Dev nD) (hn : n = nxt c) (h : ℕ) (hh : h ≤ 30)
    {hsc : (xS (oth (slotOf h)) : Memref sig (Dev.tc n : Thread nD τ).2.kind .vmem S512x384 .bf16).view.ref.isScScratch = false}
    {hsrc : (xS (slotOf h)).view.WordExact} {hdst : (xS (oth (slotOf h))).view.WordExact}
    {hsem : DmaTarget.Typed .vmem (.dma (rxS (oth (slotOf h))).sem)
      (.remote (Dev.tc n : Thread nD τ) (xS (oth (slotOf h)) : Memref sig .tc .vmem S512x384 .bf16) (.dma (sxS (slotOf h)).sem) hsc)}
    {α : Type} {Q : α → sProp 𝕄} {k : PUnit → P F α} (O : CellTallies nD τ sig ℕ) :
    iprop(Know V K J ∗ owesE c (O + tallyAt (kcell (nxt c) (kRx (oth (slotOf h)))) (16 * h + 4) NX)
        ∗ xH c (slotOf h) fullShare (V.w h c) (V.r h c) ∗ factX (nxt c) h ∗ tokX c h ∗ pos c (kSx (slotOf h)) (h / 2))
      ⊢ iprop(((owesE c O ∗ cred (tallyAt (kcell c (kSx (slotOf h))) 0 NX) ∗ pos c (kSx (slotOf h)) (h / 2)
            ∗ xH c (slotOf h) fullShare.right (V.w h c) (V.r h c)) -∗ WP c (k ⟨⟩) Q)
          -∗ WP c (.op (.enqueueDma (xS (slotOf h)) (.remote (Dev.tc n : Thread nD τ) (xS (oth (slotOf h))) (.dma (sxS (slotOf h)).sem) hsc)
              (.dma (rxS (oth (slotOf h))).sem) hsrc hdst hsem) k) Q) := by
  subst hn
  unfold Know owesE pos tokX factX xH
  iintro ⟨⟨#HC, #Hlev⟩, ⟨%W, HO⟩, Hx, ⟨#Hrel, #HrN⟩, ⟨Ht1, Ht2, Hw⟩, ⟨Hat, #HrS⟩⟩ Hk
  ihave #HI1 := (Ctx_cell V K J c (kSx (slotOf h))) $$ HC
  ihave #HI2 := (Ctx_cell V K J (nxt c) (kRx (oth (slotOf h)))) $$ HC
  ihave #HIs := (Ctx_slot V K J (nxt c, 0, oth (slotOf h))) $$ HC
  imod (Release.slot_take ES (Es := Set.univ) (Set.mem_univ _) (h / 2 + 1)) $$ [Hw] with Hd
  · isplitr; · iexact HIs
    isplitr; · iexact Hrel
    iexact Hw
  ihave Hd' := (keySlot_x (nxt c) (oth (slotOf h))) $$ Hd
  icases Hd' with ⟨%fd, Hd⟩
  icases Hx with ⟨%fs, %hfs, Hx⟩
  ihave Hx2 := (pointsTo_share (PosShare.mem_left_op_right fullShare)).1 $$ Hx
  icases Hx2 with ⟨Hl, Hr⟩
  iapply (Rounds.wp_send_pointsTo 𝒱₀ ER (Rd V) (c : Thread nD τ) none (κ₁ := K (c, kSx (slotOf h))) (κ₂ := K (nxt c, kRx (oth (slotOf h))))
    (r₁ := h / 2) (r₂ := h / 2) (d₁ := 0) (d₂ := 0) (fd := fd) (q := fullShare.left)
    (by rw [duties_k V c (kSx (slotOf h)), duty_sx h hh]; exact Finset.mem_singleton_self _)
    (by rw [duties_k V (nxt c) (kRx (oth (slotOf h))), duty_rx h hh]; exact Finset.mem_singleton_self _)
    (16 * h + 4) 0 NX (amtX _ _) (amount_k V c (kSx (slotOf h)) _ _) (amount_k V (nxt c) (kRx (oth (slotOf h))) _ _) O rfl (W := W)
    (by
      rw [payload_k V c (kSx (slotOf h)), pay_sx]; unfold xH
      iintro H; iexists fs; isplitr; · ipureintro; exact hfs
      iexact H)
    (by
      rw [payload_k V (nxt c) (kRx (oth (slotOf h))), pay_rx, Vals.w_nxt, Vals.r_nxt]
      exact xH_copied c (nxt c) (slotOf h) (oth (slotOf h)) _ _ fs fd hfs)) $$ [Hl Hd HO Ht1 Ht2]
  · isplitr; · iexact HI1
    isplitr; · iexact HI2
    isplitl [Hl]; · iexact Hl
    isplitl [Hd]; · iexact Hd
    isplitl [HO]; · iexact HO
    isplitl [Ht1]; · iexact Ht1
    isplitr; · iexact HrS
    isplitl [Ht2]; · iexact Ht2
    iexact HrN
  iintro ⟨Hc, HO⟩
  iapply Hk
  isplitl [HO]; · iexists _; iexact HO
  isplitl [Hc]; · iexact Hc
  isplitl [Hat]
  · isplitl [Hat]; · iexact Hat
    iexact HrS
  iexists fs; isplitr; · ipureintro; exact hfs
  iexact Hr

/-- The accumulator copy of hop `h`, to `n`, the right neighbour. -/
theorem send_a (n : Dev nD) (hn : n = nxt c) (h : ℕ) (hh : h < 32)
    {hsc : (aS (oth (slotOf h)) : Memref sig (Dev.tc n : Thread nD τ).2.kind .vmem S512x512 .bf16).view.ref.isScScratch = false}
    {hsrc : (aS (slotOf h)).view.WordExact} {hdst : (aS (oth (slotOf h))).view.WordExact}
    {hsem : DmaTarget.Typed .vmem (.dma (raS (oth (slotOf h))).sem)
      (.remote (Dev.tc n : Thread nD τ) (aS (oth (slotOf h)) : Memref sig .tc .vmem S512x512 .bf16) (.dma (saS (slotOf h)).sem) hsc)}
    {α : Type} {Q : α → sProp 𝕄} {k : PUnit → P F α} (O : CellTallies nD τ sig ℕ) :
    iprop(Know V K J ∗ owesE c (O + oA c h)
        ∗ aH c (slotOf h) (V.a' h c) ∗ factA (nxt c) h ∗ tokA c h ∗ pos c (kSa (slotOf h)) (h / 2))
      ⊢ iprop(((owesE c O ∗ cred (tallyAt (kcell c (kSa (slotOf h))) 0 NA) ∗ pos c (kSa (slotOf h)) (h / 2)) -∗ WP c (k ⟨⟩) Q)
          -∗ WP c (.op (.enqueueDma (aS (slotOf h)) (.remote (Dev.tc n : Thread nD τ) (aS (oth (slotOf h))) (.dma (saS (slotOf h)).sem) hsc)
              (.dma (raS (oth (slotOf h))).sem) hsrc hdst hsem) k) Q) := by
  subst hn
  unfold Know owesE pos tokA factA oA aH
  iintro ⟨⟨#HC, #Hlev⟩, ⟨%W, HO⟩, Hx, ⟨#Hrel, #HrN⟩, ⟨Ht1, Ht2, Hw⟩, ⟨Hat, #HrS⟩⟩ Hk
  ihave #HI1 := (Ctx_cell V K J c (kSa (slotOf h))) $$ HC
  ihave #HI2 := (Ctx_cell V K J (nxt c) (kRa (oth (slotOf h)))) $$ HC
  ihave #HIs := (Ctx_slot V K J (nxt c, 1, oth (slotOf h))) $$ HC
  imod (Release.slot_take ES (Es := Set.univ) (Set.mem_univ _) (h / 2 + 1)) $$ [Hw] with Hd
  · isplitr; · iexact HIs
    isplitr; · iexact Hrel
    iexact Hw
  ihave Hd' := (keySlot_a (nxt c) (oth (slotOf h))) $$ Hd
  icases Hd' with ⟨%fd, Hd⟩
  icases Hx with ⟨%fs, %hfs, Hx⟩
  iapply (Rounds.wp_send_pointsTo 𝒱₀ ER (Rd V) (c : Thread nD τ) none (κ₁ := K (c, kSa (slotOf h))) (κ₂ := K (nxt c, kRa (oth (slotOf h))))
    (r₁ := h / 2) (r₂ := h / 2) (d₁ := 0) (d₂ := 0) (fd := fd) (q := fullShare)
    (by rw [duties_k V c (kSa (slotOf h)), duty_sa _ _ (by omega)]; exact Finset.mem_singleton_self _)
    (by rw [duties_k V (nxt c) (kRa (oth (slotOf h))), duty_ra _ _ (by omega)]; exact Finset.mem_singleton_self _)
    (16 * h + 9) 0 NA (amtA _ _) (amount_k V c (kSa (slotOf h)) _ _) (amount_k V (nxt c) (kRa (oth (slotOf h))) _ _) O rfl (W := W)
    (by
      rw [payload_k V c (kSa (slotOf h))]
      show _ ⊢ aSlot c (slotOf h)
      unfold aSlot Release.slot
      iintro H; iexists fs; iexact H)
    (by
      rw [payload_k V (nxt c) (kRa (oth (slotOf h))), pay_ra, Vals.a_nxt]
      exact aH_copied c (nxt c) (slotOf h) (oth (slotOf h)) _ fs fd hfs)) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HrS
    isplitl [Ht2]; · iexact Ht2
    iexact HrN
  iintro ⟨Hc, HO⟩
  iapply Hk
  isplitl [HO]; · iexists _; iexact HO
  isplitl [Hc]; · iexact Hc
  isplitl [Hat]; · iexact Hat
  iexact HrS

end Cert.KernelIdeal.Ring

end
-- ==== Proof.Pieces2.lean ====
/- The waits and the words of a hop, each at a symbolic hop and a symbolic device. -/
module

public import proofs.«01_k».proof.Proof.Pieces

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The credit counters -/

/-- Device `c`'s hold on a credit counter of `M` one-unit duties of which it has consumed `n` units: the words it has heard
    are at least as many, and all but those still to come. -/
def credSt (c : Dev nD) (k : CK) (M : ℕ) (Φ : ℕ → sProp 𝕄) (n : ℕ) : sProp 𝕄 :=
  iprop(∃ T : Finset ℕ, ⌜T ⊆ Finset.Icc 1 M ∧ n + (Finset.Icc 1 M \ T).card ≤ M⌝
    ∗ atPos ER (kcell c k) 0 T n ∗ bigSep T Φ)

/-- Of `n + 1` numbers at least `1`, one is at least `n + 1`. -/
theorem exists_ge {M n : ℕ} {S : Finset ℕ} (hS : S ⊆ Finset.Icc 1 M) (hc : n + 1 + (Finset.Icc 1 M \ S).card ≤ M) :
    ∃ d ∈ S, n + 1 ≤ d := by
  by_contra hne
  push Not at hne
  have h1 : S ⊆ Finset.Icc 1 n := fun d hd => Finset.mem_Icc.mpr ⟨(Finset.mem_Icc.mp (hS hd)).1, by have := hne d hd; omega⟩
  have h2 := Finset.card_le_card h1
  have h3 := Finset.card_sdiff_add_card_eq_card hS
  rw [Nat.card_Icc] at h2 h3
  omega

section
variable (V : Vals F) (K : Dev nD × CK → ℕ) (J : Key → ℕ) (c : Dev nD)

/-- A unit waited for on a credit counter: a word at least as late as the number of units consumed. -/
theorem wait_credit {w : TpuEff nD τ sig (Elt F) Λ₀ (c : Thread nD τ).2 PUnit} (k : CK) (M : ℕ) (Φ : ℕ → sProp 𝕄) [∀ d, BI.Persistent (Φ d)]
    (hw : ∀ K' : PUnit → sProp 𝕄, wpE (defs₀ (F := F)) 𝒱₀ (c : Thread nD τ) none Set.univ w K'
      = waitSpec (c : Thread nD τ) Set.univ (csem k) 1 K')
    (hd : dutiesK k 0 = Finset.Icc 1 M) (ham : amountK k = 1) (hp : ∀ d, payloadK V c k 0 d = Φ d)
    {n : ℕ} (hn : n < M) {i : ℕ} (hi : i < 1000) {O : CellTallies nD τ sig ℕ} (hO : Above i O)
    {α : Type} {Q : α → sProp 𝕄} {kk : PUnit → P F α} :
    iprop(Know V K J ∗ cred (tallyAt (kcell c k) i 1) ∗ owesE c O ∗ credSt c k M Φ n)
      ⊢ iprop(((owesE c O ∗ credSt c k M Φ (n + 1) ∗ ∃ d, ⌜n + 1 ≤ d⌝ ∗ Φ d) -∗ WP c (kk ⟨⟩) Q) -∗ WP c (.op w kk) Q) := by
  have hex : (Rd V).expect (kcell c k) 0 = M := by rw [expect_k, hd, ham, Nat.card_Icc]; omega
  unfold Know owesE credSt
  iintro ⟨⟨#HC, #Hlev⟩, Hc, ⟨%W, HO⟩, ⟨%T, %hT, Hat, #HT⟩⟩ Hk
  ihave #Hinv := (Ctx_cell V K J c k) $$ HC
  iapply (Rounds.wp_wait 𝒱₀ ER (Rd V) (c : Thread nD τ) none (κ := K (c, k)) hw (Set.mem_univ _)
    (cr := Finsupp.single i 1) (O := O) (W := W) {(csem k, i)} (R := 0) (m := n) (T := T) (Util.total_single i 1)
    (image_single_subset (csem k) i 1)) $$ [Hc HO Hat]
  · isplitr; · iexact Hinv
    isplitl [Hc]; · iexact Hc
    isplitl [HO]; · iexact HO
    isplitr; · iapply (mayWait_of_above c (csem k) hi hO); iexact Hlev
    iexact Hat
  iintro %S ⟨%hS, HO, Hat, Hpay⟩
  rw [duties_k, hd, hex] at hS
  obtain ⟨hTS, hSM, hcard⟩ := hS
  obtain ⟨d, hdS, hnd⟩ := exists_ge hSM hcard
  ihave #Hpay' := (Entails.of_eq (bigSep_congr (s := S \ T) fun d _ => (payload_k V c k 0 d).trans (hp d))) $$ Hpay
  have hj : iprop(bigSep T Φ ∗ bigSep (S \ T) Φ) ⊢ bigSep S Φ := Entails.of_eq (bigSep_sdiff_split hTS).symm
  have he : bigSep S Φ ⊢ Φ d := bigSep_elim hdS
  ihave #HS := hj $$ [HT Hpay']
  · isplitl <;> iassumption
  iapply Hk
  isplitl [HO]; · iexists _; iexact HO
  isplitl [Hat]
  · iexists S; isplitr; · ipureintro; exact ⟨hSM, hcard⟩
    isplitl [Hat]; · iexact Hat
    iexact HS
  iexists d; isplitr; · ipureintro; exact hnd
  iapply he
  iexact HS

/-- A credit counter all of whose units are consumed is closed: its count is zero. -/
theorem close_credit (k : CK) (M : ℕ) (Φ : ℕ → sProp 𝕄) (hd : ∀ r, dutiesK k r = if r = 0 then Finset.Icc 1 M else ∅) (ham : amountK k = 1) :
    iprop(Know V K J ∗ credSt c k M Φ M) ⊢ iprop(|={Set.univ}=> semVal (kcell c k) 0) := by
  have hex : (Rd V).expect (kcell c k) 0 = M := by rw [expect_k, hd, if_pos rfl, ham, Nat.card_Icc]; omega
  unfold Know credSt
  iintro ⟨⟨#HC, -⟩, ⟨%T, %hT, Hat, -⟩⟩
  ihave #Hinv := (Ctx_cell V K J c k) $$ HC
  have hsub : (Rd V).duties (kcell c k) 0 ⊆ T := by
    rw [duties_k, hd, if_pos rfl, ← Finset.sdiff_eq_empty_iff_subset, ← Finset.card_eq_zero]; omega
  imod (Rounds.fupd_skip ER (Rd V) hsub hex.symm (Set.mem_univ (K (c, k)))) $$ [Hat] with ⟨Hat, -⟩
  · isplitr; · iexact Hinv
    iexact Hat
  iapply (Rounds.cell_close ER (Rd V) (Set.mem_univ (K (c, k))) (fun h => h) (R := 0 + 1)
    (fun r hr => by rw [duties_k, hd, if_neg (by omega)]))
  isplitr; · iexact Hinv
  iexact Hat

/-- A cell past its last round is closed: its count is zero. -/
theorem close_cell (k : CK) (r : ℕ) (hd : ∀ r', r ≤ r' → dutiesK k r' = ∅) :
    iprop(Know V K J ∗ pos c k r) ⊢ iprop(|={Set.univ}=> semVal (kcell c k) 0) := by
  unfold Know pos
  iintro ⟨⟨#HC, -⟩, ⟨Hat, -⟩⟩
  ihave #Hinv := (Ctx_cell V K J c k) $$ HC
  iapply (Rounds.cell_close ER (Rd V) (Set.mem_univ (K (c, k))) (fun h => h) (R := r)
    (fun r' hr => by rw [duties_k, hd r' hr]))
  isplitr; · iexact Hinv
  iexact Hat

/-! ## The pieces -/

variable {α : Type} {O : CellTallies nD τ sig ℕ} (h : ℕ)

/-- An accumulator that has been read hands back its slot. -/
theorem pay_sa (s : Fin 2) (r : ℕ) : payloadK V c (kSa s) r 0 = aSlot c s := rfl

/-- The wait for the token block. -/
theorem p_recvX (hh : h ≤ 31) (hO : 1 ≤ h → Above (16 * (h - 1) + 4) O) {Q : α → sProp 𝕄} {k : PUnit → P F α} :
    iprop(Know V K J ∗ owesE c O ∗ opt (1 ≤ h) (cred (tallyAt (kcell c (kRx (slotOf h))) (16 * (h - 1) + 4) NX))
        ∗ pos c (kRx (slotOf h)) ((h - 1) / 2) ∗ opt (h = 0) (xH c (slotOf h) fullShare (V.w h c) (V.r h c)))
      ⊢ iprop(((owesE c O ∗ pos c (kRx (slotOf h)) ((h + 1) / 2) ∗ xH c (slotOf h) fullShare (V.w h c) (V.r h c))
          -∗ WP c (k ⟨⟩) Q) -∗ WP c (pRecvX h >>= k) Q) := by
  by_cases h1 : 1 ≤ h
  · rw [opt_pos h1, opt_neg (by omega : ¬ h = 0)]
    unfold pRecvX; rw [if_pos h1]
    simp only [Prog.lift, Prog.bind_op, Prog.bind_ret]
    iintro ⟨#HK, HO, Hc, Hp, -⟩ Hk
    iapply (wait_one V K J c (w := .waitDma2 (rxS (slotOf h)).sem (xS (slotOf h)) (xS (slotOf h)) (exactX _) (exactX _)) (kRx (slotOf h)) (fun _ => rfl) (duty_rx' h h1 hh) (i := 16 * (h - 1) + 4) (by omega) (hO h1)) $$ [Hc HO Hp]
    · isplitr; · iexact HK
      isplitl [Hc]; · iexact Hc
      isplitl [HO] <;> iassumption
    iintro ⟨HO, Hp, Hx⟩
    iapply Hk
    isplitl [HO]; · iexact HO
    isplitl [Hp]
    · rw [show (h + 1) / 2 = (h - 1) / 2 + 1 from by omega]; iexact Hp
    iapply (Entails.of_eq (pay_rx' V c h h1)); iexact Hx
  · obtain rfl : h = 0 := by omega
    rw [opt_neg h1, opt_pos rfl]
    unfold pRecvX; rw [if_neg h1]
    simp only [Prog.pure_eq_ret, Prog.bind_ret]
    iintro ⟨#HK, HO, -, Hp, Hx⟩ Hk
    iapply Hk
    isplitl [HO]; · iexact HO
    isplitl [Hp]; · iexact Hp
    iexact Hx

/-- The wait for the accumulator. -/
theorem p_recvA (hh : h ≤ 32) (hO : 1 ≤ h → Above (16 * (h - 1) + 9) O) {Q : α → sProp 𝕄} {k : PUnit → P F α} :
    iprop(Know V K J ∗ owesE c O ∗ opt (1 ≤ h) (cred (tallyAt (kcell c (kRa (slotOf h))) (16 * (h - 1) + 9) NA))
        ∗ pos c (kRa (slotOf h)) ((h - 1) / 2) ∗ opt (h = 0) (aH c (slotOf h) (V.a h c)))
      ⊢ iprop(((owesE c O ∗ pos c (kRa (slotOf h)) ((h + 1) / 2) ∗ aH c (slotOf h) (V.a h c))
          -∗ WP c (k ⟨⟩) Q) -∗ WP c (pRecvA h >>= k) Q) := by
  by_cases h1 : 1 ≤ h
  · rw [opt_pos h1, opt_neg (by omega : ¬ h = 0)]
    unfold pRecvA; rw [if_pos h1]
    simp only [Prog.lift, Prog.bind_op, Prog.bind_ret]
    iintro ⟨#HK, HO, Hc, Hp, -⟩ Hk
    iapply (wait_one V K J c (w := .waitDma2 (raS (slotOf h)).sem (aS (slotOf h)) (aS (slotOf h)) (exactA _) (exactA _)) (kRa (slotOf h)) (fun _ => rfl) (duty_ra _ ((h - 1) / 2) (by omega)) (i := 16 * (h - 1) + 9) (by omega) (hO h1)) $$ [Hc HO Hp]
    · isplitr; · iexact HK
      isplitl [Hc]; · iexact Hc
      isplitl [HO] <;> iassumption
    iintro ⟨HO, Hp, Hx⟩
    iapply Hk
    isplitl [HO]; · iexact HO
    isplitl [Hp]
    · rw [show (h + 1) / 2 = (h - 1) / 2 + 1 from by omega]; iexact Hp
    iapply (Entails.of_eq (pay_ra' V c h h1)); iexact Hx
  · obtain rfl : h = 0 := by omega
    rw [opt_neg h1, opt_pos rfl]
    unfold pRecvA; rw [if_neg h1]
    simp only [Prog.pure_eq_ret, Prog.bind_ret]
    iintro ⟨#HK, HO, -, Hp, Hx⟩ Hk
    iapply Hk
    isplitl [HO]; · iexact HO
    isplitl [Hp]; · iexact Hp
    iexact Hx

/-- The wait for the word that the right neighbour's token slot is free. -/
theorem p_credX (hO : 1 ≤ h → Above (16 * (h - 1) + 11) O) {Q : α → sProp 𝕄} {k : PUnit → P F α} :
    iprop(Know V K J ∗ owesE c O ∗ opt (1 ≤ h ∧ h ≤ 30) (cred (tallyAt (kcell c kCx) (16 * (h - 1) + 11) 1))
        ∗ credSt c kCx 30 (allX (nxt c)) (min (h - 1) 30) ∗ opt (h = 0) (factX (nxt c) h))
      ⊢ iprop(((owesE c O ∗ credSt c kCx 30 (allX (nxt c)) (min h 30) ∗ opt (h ≤ 30) (factX (nxt c) h))
          -∗ WP c (k ⟨⟩) Q) -∗ WP c (pCredX h >>= k) Q) := by
  by_cases h1 : 1 ≤ h ∧ h ≤ 30
  · rw [opt_pos h1, opt_neg (by omega : ¬ h = 0), opt_pos h1.2, show min (h - 1) 30 = h - 1 from by omega, show min h 30 = h - 1 + 1 from by omega]
    unfold pCredX; rw [if_pos h1]
    simp only [semWaitWord, Prog.lift, Prog.bind_op, Prog.bind_ret]
    iintro ⟨#HK, HO, Hc, Hp, -⟩ Hk
    iapply (wait_credit V K J c (w := .semWait cc0_scratch6.sem 1) kCx 30 (allX (nxt c)) (fun _ => rfl) rfl rfl (fun _ => rfl)
      (n := h - 1) (by omega) (i := 16 * (h - 1) + 11) (by omega) (hO h1.1)) $$ [Hc HO Hp]
    · isplitr; · iexact HK
      isplitl [Hc]; · iexact Hc
      isplitl [HO] <;> iassumption
    iintro ⟨HO, Hp, ⟨%d, %hd, Hx⟩⟩
    iapply Hk
    isplitl [HO]; · iexact HO
    isplitl [Hp]; · iexact Hp
    iapply (allX_elim (nxt c) (by omega : h ≤ d)); iexact Hx
  · unfold pCredX; rw [if_neg h1]
    rw [opt_neg h1]
    simp only [Prog.pure_eq_ret, Prog.bind_ret]
    by_cases h0 : h = 0
    · subst h0
      rw [opt_pos rfl, opt_pos (by omega)]
      iintro ⟨#HK, HO, -, Hp, Hx⟩ Hk
      iapply Hk
      isplitl [HO]; · iexact HO
      isplitl [Hp]; · iexact Hp
      iexact Hx
    · rw [opt_neg h0, opt_neg (by omega), show min (h - 1) 30 = min h 30 from by omega]
      iintro ⟨#HK, HO, -, Hp, Hx⟩ Hk
      iapply Hk
      isplitl [HO]; · iexact HO
      isplitl [Hp]; · iexact Hp
      iexact Hx

/-- The wait for the word that the right neighbour's accumulator slot is free. -/
theorem p_credA (hh : h ≤ 31) (hO : Above (16 * h + 6) O) {Q : α → sProp 𝕄} {k : PUnit → P F α} :
    iprop(Know V K J ∗ owesE c O ∗ opt (1 ≤ h) (cred (tallyAt (kcell c kCa) (16 * h + 6) 1))
        ∗ credSt c kCa 31 (allA (nxt c)) (h - 1) ∗ opt (h = 0) (factA (nxt c) h))
      ⊢ iprop(((owesE c O ∗ credSt c kCa 31 (allA (nxt c)) h ∗ factA (nxt c) h)
          -∗ WP c (k ⟨⟩) Q) -∗ WP c (pCredA h >>= k) Q) := by
  by_cases h1 : 1 ≤ h
  · rw [opt_pos h1, opt_neg (by omega : ¬ h = 0)]
    unfold pCredA; rw [if_pos h1]
    simp only [semWaitWord, Prog.lift, Prog.bind_op, Prog.bind_ret]
    iintro ⟨#HK, HO, Hc, Hp, -⟩ Hk
    iapply (wait_credit V K J c (w := .semWait cc0_scratch7.sem 1) kCa 31 (allA (nxt c)) (fun _ => rfl) rfl rfl (fun _ => rfl)
      (n := h - 1) (by omega) (i := 16 * h + 6) (by omega) hO) $$ [Hc HO Hp]
    · isplitr; · iexact HK
      isplitl [Hc]; · iexact Hc
      isplitl [HO] <;> iassumption
    iintro ⟨HO, Hp, ⟨%d, %hd, Hx⟩⟩
    iapply Hk
    isplitl [HO]; · iexact HO
    isplitl [Hp]
    · rw [show h = h - 1 + 1 from by omega]; iexact Hp
    iapply (allA_elim (nxt c) (by omega : h ≤ d)); iexact Hx
  · obtain rfl : h = 0 := by omega
    rw [opt_neg h1, opt_pos rfl]
    unfold pCredA; rw [if_neg h1]
    simp only [Prog.pure_eq_ret, Prog.bind_ret]
    iintro ⟨#HK, HO, -, Hp, Hx⟩ Hk
    iapply Hk
    isplitl [HO]; · iexact HO
    isplitl [Hp]; · iexact Hp
    iexact Hx

/-- The wait for the accumulator of the hop before to have left. -/
theorem p_sentA (hh : h ≤ 32) (hO : Above 0 O) {Q : α → sProp 𝕄} {k : PUnit → P F α} :
    iprop(Know V K J ∗ owesE c O ∗ opt (1 ≤ h) (cred (tallyAt (kcell c (kSa (oth (slotOf h)))) 0 NA))
        ∗ pos c (kSa (oth (slotOf h))) ((h - 1) / 2))
      ⊢ iprop(((owesE c O ∗ pos c (kSa (oth (slotOf h))) ((h + 1) / 2) ∗ opt (1 ≤ h) (aSlot c (oth (slotOf h))))
          -∗ WP c (k ⟨⟩) Q) -∗ WP c (pSentA h >>= k) Q) := by
  by_cases h1 : 1 ≤ h
  · rw [opt_pos h1, opt_pos h1]
    unfold pSentA; rw [if_pos h1]
    simp only [Prog.lift, Prog.bind_op, Prog.bind_ret]
    iintro ⟨#HK, HO, Hc, Hp⟩ Hk
    iapply (wait_one V K J c (w := .waitDma2 (saS (oth (slotOf h))).sem (aS (slotOf h)) (aS (oth (slotOf h))) (exactA _) (exactA _)) (kSa (oth (slotOf h))) (fun _ => rfl) (duty_sa _ ((h - 1) / 2) (by omega)) (i := 0) (by omega) hO) $$ [Hc HO Hp]
    · isplitr; · iexact HK
      isplitl [Hc]; · iexact Hc
      isplitl [HO] <;> iassumption
    iintro ⟨HO, Hp, Hx⟩
    iapply Hk
    isplitl [HO]; · iexact HO
    isplitl [Hp]
    · rw [show (h + 1) / 2 = (h - 1) / 2 + 1 from by omega]; iexact Hp
    iapply (Entails.of_eq (pay_sa V c (oth (slotOf h)) ((h - 1) / 2))); iexact Hx
  · obtain rfl : h = 0 := by omega
    rw [opt_neg h1, opt_neg h1]
    unfold pSentA; rw [if_neg h1]
    simp only [Prog.pure_eq_ret, Prog.bind_ret]
    iintro ⟨#HK, HO, -, Hp⟩ Hk
    iapply Hk
    isplitl [HO]; · iexact HO
    isplitl [Hp]; · iexact Hp
    iempintro

end

end Cert.KernelIdeal.Ring

end
-- ==== Proof.Pieces3.lean ====
/- The copies, the words, the loads and the stores of a hop, each at a symbolic hop and a symbolic device. -/
module

public import proofs.«01_k».proof.Proof.Pieces2

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The slots, given up and put together -/

section
variable (c : Dev nD) (s : Fin 2)

omit [FloatOps F] in
/-- A token slot is held by one holder only. -/
theorem xSlot_false : iprop(xSlot (F := F) c s ∗ xSlot c s) ⊢ (False : sProp 𝕄) :=
  Release.slot_slot_false (Finset.card_pos.mp (by rw [View.card_set]; decide))
omit [FloatOps F] in
/-- An accumulator slot is held by one holder only. -/
theorem aSlot_false : iprop(aSlot (F := F) c s ∗ aSlot c s) ⊢ (False : sProp 𝕄) :=
  Release.slot_slot_false (Finset.card_pos.mp (by rw [View.card_set]; decide))
omit [FloatOps F] in
/-- The key of a token slot guards that slot. -/
theorem keySlot_x_eq : keySlot (F := F) (c, 0, s) = xSlot c s := by unfold keySlot; rw [if_pos rfl]
omit [FloatOps F] in
/-- The key of an accumulator slot guards that slot. -/
theorem keySlot_a_eq : keySlot (F := F) (c, 1, s) = aSlot c s := by
  unfold keySlot; rw [if_neg (by decide : ¬ ((1 : Fin 2) = 0))]
omit [FloatOps F] in
/-- A token slot, its contents forgotten. -/
theorem xH_slot (w : Vec F S1x512x256 .bf16) (r : Vec F S1x512x1 .bf16) : xH c s fullShare w r ⊢ xSlot c s := by
  unfold xH xSlot Release.slot
  iintro ⟨%f, -, H⟩
  iexists f; iexact H
omit [FloatOps F] in
/-- An accumulator slot, its contents forgotten. -/
theorem aH_slot (a : Vec F S1x512x512 .bf16) : aH c s a ⊢ aSlot c s := by
  unfold aH aSlot Release.slot
  iintro ⟨%f, -, H⟩
  iexists f; iexact H
omit [FloatOps F] in
/-- The two halves of a token slot make the slot. -/
theorem xH_join (w : Vec F S1x512x256 .bf16) (r : Vec F S1x512x1 .bf16) :
    iprop(xH c s fullShare.left w r ∗ xH c s fullShare.right w r) ⊢ xH c s fullShare w r := by
  unfold xH
  iintro ⟨⟨%f, %hf, Hf⟩, ⟨%g, -, Hg⟩⟩
  have ha : iprop(((xS s).view.loc (c : Thread nD τ) ↦[(xS s).view.set]{fullShare.left} f)
      ∗ ((xS s).view.loc (c : Thread nD τ) ↦[(xS s).view.set]{fullShare.right} g))
      ⊢ (((xS s).view.loc (c : Thread nD τ) ↦[(xS s).view.set]{fullShare} f) : sProp 𝕄) := by
    iintro ⟨Hf, Hg⟩
    icombine Hf Hg gives %hv
    have hc : ((xS s).view.loc (c : Thread nD τ) ↦[(xS s).view.set]{fullShare.right} g : sProp 𝕄)
        = ((xS s).view.loc (c : Thread nD τ) ↦[(xS s).view.set]{fullShare.right} f) :=
      pointsTo_congr fun i hi => ((hv i (Finset.mem_inter.mpr ⟨hi, hi⟩)).1).symm
    ihave Hg' := (Entails.of_eq hc) $$ Hg
    iapply (pointsTo_share (PosShare.mem_left_op_right fullShare)).2
    isplitl [Hf] <;> iassumption
  iexists f
  isplitr; · ipureintro; exact hf
  iapply ha
  isplitl [Hf] <;> iassumption
end

section
variable (V : Vals F) (K : Dev nD × CK → ℕ) (J : Key → ℕ) (c : Dev nD)
variable {α : Type} {O : CellTallies nD τ sig ℕ} (h : ℕ)

/-! ## Loads and stores -/

/-- The load of the weighted tokens. -/
theorem p_loadW (q : PosShare TreeShare) (w : Vec F S1x512x256 .bf16) (r : Vec F S1x512x1 .bf16)
    {Q : α → sProp 𝕄} {k : Vec F S1x512x256 .bf16 → P F α} :
    xH c (slotOf h) q w r ⊢ iprop((xH c (slotOf h) q w r -∗ WP c (k w) Q) -∗ WP c (pLoadW h >>= k) Q) := by
  unfold pLoadW xH
  simp only [Prog.lift, Prog.bind_op, Prog.bind_ret]
  iintro ⟨%f, %hf, H⟩ Hk
  obtain ⟨hw, hr⟩ := hf
  subst hw
  iapply (wp_load 𝒱₀ (c : Thread nD τ) none Set.univ (m := xM) (r := (boxXw (slotOf h)).toLoadRect) (S := (xS (slotOf h)).view.set) (q := q) (f := f)
    (subW (slotOf h))) $$ H
  iintro H
  iapply Hk
  iexists f; isplitr; · ipureintro; exact ⟨rfl, hr⟩
  iexact H

/-- The load of the routes. -/
theorem p_loadR (q : PosShare TreeShare) (w : Vec F S1x512x256 .bf16) (r : Vec F S1x512x1 .bf16)
    {Q : α → sProp 𝕄} {k : Vec F S1x512x1 .bf16 → P F α} :
    xH c (slotOf h) q w r ⊢ iprop((xH c (slotOf h) q w r -∗ WP c (k r) Q) -∗ WP c (pLoadR h >>= k) Q) := by
  unfold pLoadR xH
  simp only [Prog.lift, Prog.bind_op, Prog.bind_ret]
  iintro ⟨%f, %hf, H⟩ Hk
  obtain ⟨hw, hr⟩ := hf
  subst hr
  iapply (wp_load 𝒱₀ (c : Thread nD τ) none Set.univ (m := xM) (r := (boxXr (slotOf h)).toLoadRect) (S := (xS (slotOf h)).view.set) (q := q) (f := f)
    (subR (slotOf h))) $$ H
  iintro H
  iapply Hk
  iexists f; isplitr; · ipureintro; exact ⟨hw, rfl⟩
  iexact H

/-- The load of the accumulator. -/
theorem p_loadA (a : Vec F S1x512x512 .bf16) {Q : α → sProp 𝕄} {k : Vec F S1x512x512 .bf16 → P F α} :
    aH c (slotOf h) a ⊢ iprop((aH c (slotOf h) a -∗ WP c (k a) Q) -∗ WP c (pLoadA h >>= k) Q) := by
  unfold pLoadA aH
  simp only [Prog.lift, Prog.bind_op, Prog.bind_ret]
  iintro ⟨%f, %hf, H⟩ Hk
  subst hf
  iapply (wp_load 𝒱₀ (c : Thread nD τ) none Set.univ (m := aM) (r := (boxA (slotOf h)).toLoadRect) (S := (aS (slotOf h)).view.set) (q := fullShare) (f := f)
    (subA (slotOf h))) $$ H
  iintro H
  iapply Hk
  iexists f; isplitr; · ipureintro; exact rfl
  iexact H

/-- The load of an accumulator slot whose contents do not matter. -/
theorem p_loadA_any {Q : α → sProp 𝕄} {k : Vec F S1x512x512 .bf16 → P F α} :
    aSlot c (slotOf h) ⊢ iprop((∀ a, aH c (slotOf h) a -∗ WP c (k a) Q) -∗ WP c (pLoadA h >>= k) Q) := by
  unfold aSlot Release.slot
  iintro ⟨%f, H⟩ Hk
  iapply (p_loadA c h (aM.view.readAt (Elt F) (boxA (slotOf h)).toLoadRect f)) $$ [H]
  · unfold aH; iexists f; isplitr; · ipureintro; exact rfl
    iexact H
  iapply Hk

/-- The store of the accumulator. -/
theorem p_storeA (a v : Vec F S1x512x512 .bf16) {Q : α → sProp 𝕄} {k : PUnit → P F α} :
    aH c (slotOf h) a ⊢ iprop((aH c (slotOf h) v -∗ WP c (k ⟨⟩) Q) -∗ WP c (pStoreA h v >>= k) Q) := by
  unfold pStoreA aH
  simp only [Prog.lift, Prog.bind_op, Prog.bind_ret]
  iintro ⟨%f, %hf, H⟩ Hk
  iapply (wp_store 𝒱₀ (c : Thread nD τ) none Set.univ (m := aM) (r := boxA (slotOf h)) (w := v) (Mk := Finset.univ) (S := (aS (slotOf h)).view.set) (f := f)
    (subA' (slotOf h))) $$ H
  iintro H
  iapply Hk
  iexists _; isplitr; swap
  · iexact H
  ipureintro; exact stored_A (slotOf h) f v

/-! ## The copies -/

/-- The share of its token block a device reads at hop `h`: half of it is out with the copy, but for the last hop. -/
def qOf : PosShare TreeShare := if h ≤ 30 then fullShare.right else fullShare

/-- The token copy. -/
theorem p_sendX {Q : α → sProp 𝕄} {k : PUnit → P F α} :
    iprop(Know V K J ∗ owesE c (O + oX c h) ∗ xH c (slotOf h) fullShare (V.w h c) (V.r h c) ∗ opt (h ≤ 30) (factX (nxt c) h)
        ∗ opt (h ≤ 30) (tokX c h) ∗ pos c (kSx (slotOf h)) (h / 2))
      ⊢ iprop(((owesE c O ∗ opt (h ≤ 30) (cred (tallyAt (kcell c (kSx (slotOf h))) 0 NX)) ∗ pos c (kSx (slotOf h)) (h / 2)
            ∗ xH c (slotOf h) (qOf h) (V.w h c) (V.r h c)) -∗ WP c (k ⟨⟩) Q) -∗ WP c (pSendX h c >>= k) Q) := by
  unfold pSendX oX qOf
  by_cases hh : h ≤ 30
  · rw [opt_pos hh, opt_pos hh, opt_pos hh, if_pos hh, if_pos hh, if_pos hh]
    simp only [Prog.lift, Prog.bind_op, Prog.bind_ret]
    exact send_x V K J c _ (dev3_eq c) h hh O
  · rw [opt_neg hh, opt_neg hh, opt_neg hh, if_neg hh, if_neg hh, if_neg hh, add_zero]
    simp only [Prog.pure_eq_ret, Prog.bind_ret]
    iintro ⟨#HK, HO, Hx, -, -, Hp⟩ Hk
    iapply Hk
    isplitl [HO]; · iexact HO
    isplitr; · iempintro
    isplitl [Hp]; · iexact Hp
    iexact Hx

/-- The accumulator copy. -/
theorem p_sendA (hh : h < 32) {Q : α → sProp 𝕄} {k : PUnit → P F α} :
    iprop(Know V K J ∗ owesE c (O + oA c h) ∗ aH c (slotOf h) (V.a' h c) ∗ factA (nxt c) h ∗ tokA c h ∗ pos c (kSa (slotOf h)) (h / 2))
      ⊢ iprop(((owesE c O ∗ cred (tallyAt (kcell c (kSa (slotOf h))) 0 NA) ∗ pos c (kSa (slotOf h)) (h / 2)) -∗ WP c (k ⟨⟩) Q)
          -∗ WP c (pSendA h c >>= k) Q) := by
  unfold pSendA
  simp only [Prog.lift, Prog.bind_op, Prog.bind_ret]
  exact send_a V K J c _ (dev4_eq c) h hh O

/-- The wait for the token copy to have left: the other half comes back. -/
theorem p_sentX (hO : Above 0 O) {Q : α → sProp 𝕄} {k : PUnit → P F α} :
    iprop(Know V K J ∗ owesE c O ∗ opt (h ≤ 30) (cred (tallyAt (kcell c (kSx (slotOf h))) 0 NX)) ∗ pos c (kSx (slotOf h)) (h / 2)
        ∗ xH c (slotOf h) (qOf h) (V.w h c) (V.r h c))
      ⊢ iprop(((owesE c O ∗ pos c (kSx (slotOf h)) (if h ≤ 30 then h / 2 + 1 else h / 2)
            ∗ xH c (slotOf h) fullShare (V.w h c) (V.r h c)) -∗ WP c (k ⟨⟩) Q) -∗ WP c (pSentX h >>= k) Q) := by
  unfold pSentX qOf
  by_cases hh : h ≤ 30
  · rw [opt_pos hh, if_pos hh, if_pos hh, if_pos hh]
    simp only [Prog.lift, Prog.bind_op, Prog.bind_ret]
    iintro ⟨#HK, HO, Hc, Hp, Hx⟩ Hk
    iapply (wait_one V K J c (w := .waitDma2 (sxS (slotOf h)).sem (xS (oth (slotOf h))) (xS (slotOf h)) (exactX _) (exactX _)) (kSx (slotOf h)) (fun _ => rfl) (duty_sx h hh) (i := 0) (by omega) hO) $$ [Hc HO Hp]
    · isplitr; · iexact HK
      isplitl [Hc]; · iexact Hc
      isplitl [HO] <;> iassumption
    iintro ⟨HO, Hp, Hl⟩
    ihave Hl' := (Entails.of_eq (pay_sx V c h)) $$ Hl
    iapply Hk
    isplitl [HO]; · iexact HO
    isplitl [Hp]; · iexact Hp
    iapply (xH_join c (slotOf h) (V.w h c) (V.r h c))
    isplitl [Hl'] <;> iassumption
  · rw [opt_neg hh, if_neg hh, if_neg hh, if_neg hh]
    simp only [Prog.pure_eq_ret, Prog.bind_ret]
    iintro ⟨#HK, HO, -, Hp, Hx⟩ Hk
    iapply Hk
    isplitl [HO]; · iexact HO
    isplitl [Hp] <;> iassumption

/-! ## The words that a slot is free -/

/-- The word of hop `h` about the accumulator slot of the hop before. -/
theorem p_freeA (hh : h ≤ 31) {Q : α → sProp 𝕄} {k : PUnit → P F α} :
    iprop(Know V K J ∗ owesE c (O + oCa c h) ∗ opt (1 ≤ h) (aSlot c (oth (slotOf h)))
        ∗ Release.readerAt ES ((c, 1, oth (slotOf h)) : Key) (if h = 0 then 1 else h / 2)
        ∗ opt (1 ≤ h) (dutyTok ER (kcell (prv c) kCa) 0 h) ∗ pos c (kRa (oth (slotOf h))) (h / 2) ∗ allA c (h - 1))
      ⊢ iprop(((owesE c O ∗ Release.readerAt ES ((c, 1, oth (slotOf h)) : Key) (h / 2 + 1)
            ∗ pos c (kRa (oth (slotOf h))) (h / 2) ∗ allA c h) -∗ WP c (k ⟨⟩) Q) -∗ WP c (pFreeA h c >>= k) Q) := by
  unfold pFreeA oCa
  by_cases h1 : 1 ≤ h
  · rw [opt_pos h1, opt_pos h1, if_pos h1, if_pos h1, if_neg (by omega : ¬ h = 0)]
    simp only [semSignalWord, Prog.lift, Prog.bind_op, Prog.bind_ret, dev5_eq c]
    have hsucc : iprop(allA (F := F) c (h - 1) ∗ factA c h) ⊢ allA c h := by
      have := allA_succ (F := F) c (h - 1)
      rwa [Nat.sub_add_cancel h1] at this
    have hpay : allA c h ⊢ (Rd V).payload (kcell (prv c) kCa) 0 h := by
      rw [payload_k V (prv c) kCa]
      show _ ⊢ allA (nxt (prv c)) h
      rw [nxt_prv]
    have hf : iprop(Release.released ES ((c, 1, oth (slotOf h)) : Key) (h / 2 + 1) ∗ reached ER (kcell c (kRa (oth (slotOf h)))) (h / 2))
      ⊢ factA (F := F) c h := Entails.of_eq rfl
    unfold Know owesE pos
    iintro ⟨⟨#HC, #Hlev⟩, ⟨%W, HO⟩, Hs, Hr, Ht, ⟨Hat, #Hre⟩, #Hall⟩ Hk
    ihave #HIs := (Ctx_slot V K J (c, 1, oth (slotOf h))) $$ HC
    ihave #HI := (Ctx_cell V K J (prv c) kCa) $$ HC
    ihave #HR0 := (Ctx_reached V K J (prv c) kCa) $$ HC
    imod (Release.slot_release ES (Es := Set.univ) (Set.mem_univ _) (S := keySlot (F := F) (c, 1, oth (slotOf h)))
      (by rw [keySlot_a_eq]; exact aSlot_false c _) (h / 2)) $$ [Hs Hr] with ⟨Hr, #Hrel⟩
    · isplitr; · iexact HIs
      isplitl [Hr]; · iexact Hr
      iapply (Entails.of_eq (keySlot_a_eq c (oth (slotOf h))).symm); iexact Hs
    ihave #Hfact := hf $$ []
    · isplitr <;> iassumption
    ihave #Hall' := hsucc $$ []
    · isplitr <;> iassumption
    iapply (Rounds.wp_signal 𝒱₀ ER (Rd V) (c : Thread nD τ) none (dst := (prv c : Thread nD τ)) (κ := K (prv c, kCa)) (r := 0)
      (d := h) (by rw [duties_k V (prv c) kCa]; exact Finset.mem_Icc.mpr ⟨h1, hh⟩)
      ((amount_k V (prv c) kCa 0 h).trans (by decide)) (16 * h + 6) O rfl) $$ [HO Ht]
    · isplitr; · iexact HI
      isplitl [HO]; · iexact HO
      isplitl [Ht]; · iexact Ht
      isplitr; · iapply hpay; iexact Hall'
      iexact HR0
    iintro HO
    iapply Hk
    isplitl [HO]; · iexists _; iexact HO
    isplitl [Hr]; · iexact Hr
    isplitl [Hat]
    · isplitl [Hat]; · iexact Hat
      iexact Hre
    iexact Hall'
  · obtain rfl : h = 0 := by omega
    rw [opt_neg h1, opt_neg h1, if_neg h1, if_neg h1, if_pos rfl, add_zero]
    simp only [Prog.pure_eq_ret, Prog.bind_ret]
    iintro ⟨#HK, HO, -, Hr, -, Hp, #Hall⟩ Hk
    iapply Hk
    isplitl [HO]; · iexact HO
    isplitl [Hr]; · iexact Hr
    isplitl [Hp]; · iexact Hp
    iexact Hall

/-- The word of hop `h` about its token slot, for the copy of the next hop. -/
theorem p_freeX {Q : α → sProp 𝕄} {k : PUnit → P F α} :
    iprop(Know V K J ∗ owesE c (O + oCx c h) ∗ xH c (slotOf h) fullShare (V.w h c) (V.r h c)
        ∗ opt (h ≤ 29) (Release.readerAt ES ((c, 0, slotOf h) : Key) ((h + 1) / 2))
        ∗ opt (h ≤ 29) (dutyTok ER (kcell (prv c) kCx) 0 (h + 1)) ∗ pos c (kRx (slotOf h)) ((h + 1) / 2) ∗ allX c (min h 30))
      ⊢ iprop(((owesE c O ∗ opt (h ≤ 29) (Release.readerAt ES ((c, 0, slotOf h) : Key) ((h + 1) / 2 + 1))
            ∗ pos c (kRx (slotOf h)) ((h + 1) / 2) ∗ allX c (min (h + 1) 30) ∗ opt (30 ≤ h) (xSlot c (slotOf h)))
          -∗ WP c (k ⟨⟩) Q) -∗ WP c (pFreeX h c >>= k) Q) := by
  unfold pFreeX oCx
  by_cases hh : h ≤ 29
  · rw [opt_pos hh, opt_pos hh, opt_pos hh, if_pos hh, if_pos hh, opt_neg (by omega : ¬ 30 ≤ h),
      show min h 30 = h from by omega, show min (h + 1) 30 = h + 1 from by omega]
    simp only [semSignalWord, Prog.lift, Prog.bind_op, Prog.bind_ret, dev5_eq c]
    have hpay : allX c (h + 1) ⊢ (Rd V).payload (kcell (prv c) kCx) 0 (h + 1) := by
      rw [payload_k V (prv c) kCx]
      show _ ⊢ allX (nxt (prv c)) (h + 1)
      rw [nxt_prv]
    have hf : iprop(Release.released ES ((c, 0, slotOf h) : Key) ((h + 1) / 2 + 1) ∗ reached ER (kcell c (kRx (slotOf h))) ((h + 1) / 2))
        ⊢ factX (F := F) c (h + 1) := by
      unfold factX; rw [slotOf_succ, oth_oth]
    unfold Know owesE pos
    iintro ⟨⟨#HC, #Hlev⟩, ⟨%W, HO⟩, Hs, Hr, Ht, ⟨Hat, #Hre⟩, #Hall⟩ Hk
    ihave #HIs := (Ctx_slot V K J (c, 0, slotOf h)) $$ HC
    ihave #HI := (Ctx_cell V K J (prv c) kCx) $$ HC
    ihave #HR0 := (Ctx_reached V K J (prv c) kCx) $$ HC
    ihave Hs' := (xH_slot c (slotOf h) (V.w h c) (V.r h c)) $$ Hs
    imod (Release.slot_release ES (Es := Set.univ) (Set.mem_univ _) (S := keySlot (F := F) (c, 0, slotOf h))
      (by rw [keySlot_x_eq]; exact xSlot_false c _) ((h + 1) / 2)) $$ [Hs' Hr] with ⟨Hr, #Hrel⟩
    · isplitr; · iexact HIs
      isplitl [Hr]; · iexact Hr
      iapply (Entails.of_eq (keySlot_x_eq c (slotOf h)).symm); iexact Hs'
    ihave #Hfact := hf $$ []
    · isplitr <;> iassumption
    ihave #Hall' := (allX_succ c h) $$ []
    · isplitr <;> iassumption
    iapply (Rounds.wp_signal 𝒱₀ ER (Rd V) (c : Thread nD τ) none (dst := (prv c : Thread nD τ)) (κ := K (prv c, kCx)) (r := 0)
      (d := h + 1) (by rw [duties_k V (prv c) kCx]; exact Finset.mem_Icc.mpr ⟨by omega, by omega⟩)
      ((amount_k V (prv c) kCx 0 (h + 1)).trans (by decide)) (16 * h + 11) O rfl) $$ [HO Ht]
    · isplitr; · iexact HI
      isplitl [HO]; · iexact HO
      isplitl [Ht]; · iexact Ht
      isplitr; · iapply hpay; iexact Hall'
      iexact HR0
    iintro HO
    iapply Hk
    isplitl [HO]; · iexists _; iexact HO
    isplitl [Hr]; · iexact Hr
    isplitl [Hat]
    · isplitl [Hat]; · iexact Hat
      iexact Hre
    isplitr; · iexact Hall'
    iempintro
  · rw [opt_neg hh, opt_neg hh, opt_neg hh, if_neg hh, if_neg hh, add_zero, opt_pos (by omega : 30 ≤ h),
      show min (h + 1) 30 = min h 30 from by omega]
    simp only [Prog.pure_eq_ret, Prog.bind_ret]
    iintro ⟨#HK, HO, Hx, -, -, Hp, #Hall⟩ Hk
    iapply Hk
    isplitl [HO]; · iexact HO
    isplitr; · iempintro
    isplitl [Hp]; · iexact Hp
    isplitr; · iexact Hall
    iapply (xH_slot c (slotOf h) (V.w h c) (V.r h c)); iexact Hx

end

end Cert.KernelIdeal.Ring

end
-- ==== Proof.Hop.lean ====
/- One hop at a symbolic hop and a symbolic device, and all the hops. -/
module

public import proofs.«01_k».proof.Proof.Pieces3

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device holds between hops -/

section
variable (V : Vals F) (c : Dev nD) (h : ℕ)

/-- What hop `h` uses up to pay: the tokens of its copies and of its two words. -/
def hopTok : sProp 𝕄 :=
  iprop(opt (h ≤ 30) (tokX c h) ∗ tokA c h ∗ opt (1 ≤ h) (dutyTok ER (kcell (prv c) kCa) 0 h)
    ∗ opt (h ≤ 29) (dutyTok ER (kcell (prv c) kCx) 0 (h + 1)))
/-- What hop `h` uses up to wait: the credit of the blocks it receives and of the words it hears. -/
def hopCred : sProp 𝕄 :=
  iprop(opt (1 ≤ h) (cred (tallyAt (kcell c (kRx (slotOf h))) (16 * (h - 1) + 4) NX))
    ∗ opt (1 ≤ h ∧ h ≤ 30) (cred (tallyAt (kcell c kCx) (16 * (h - 1) + 11) 1))
    ∗ opt (1 ≤ h) (cred (tallyAt (kcell c (kRa (slotOf h))) (16 * (h - 1) + 9) NA))
    ∗ opt (1 ≤ h) (cred (tallyAt (kcell c kCa) (16 * h + 6) 1)))

/-- The positions in the cells before hop `h`. -/
def invPos : sProp 𝕄 :=
  iprop(pos c (kRx (slotOf h)) ((h - 1) / 2) ∗ pos c (kRx (oth (slotOf h))) (h / 2)
    ∗ pos c (kSx (slotOf h)) (h / 2) ∗ pos c (kSx (oth (slotOf h))) (if h ≤ 31 then (h + 1) / 2 else 15)
    ∗ pos c (kSa (slotOf h)) (h / 2) ∗ pos c (kSa (oth (slotOf h))) ((h - 1) / 2)
    ∗ opt (1 ≤ h) (cred (tallyAt (kcell c (kSa (oth (slotOf h)))) 0 NA))
    ∗ pos c (kRa (slotOf h)) ((h - 1) / 2) ∗ pos c (kRa (oth (slotOf h))) (h / 2)
    ∗ credSt c kCx 30 (allX (nxt c)) (min (h - 1) 30) ∗ credSt c kCa 31 (allA (nxt c)) (h - 1))
/-- The counts of the slots' releases before hop `h`. -/
def invRead : sProp 𝕄 :=
  iprop(opt (h ≤ 29) (Release.readerAt ES ((c, 0, slotOf h) : Key) ((h + 1) / 2))
    ∗ opt (h ≤ 28) (Release.readerAt ES ((c, 0, oth (slotOf h)) : Key) ((h + 2) / 2))
    ∗ Release.readerAt ES ((c, 1, oth (slotOf h)) : Key) (if h = 0 then 1 else h / 2)
    ∗ Release.readerAt ES ((c, 1, slotOf h) : Key) ((h + 1) / 2))
/-- The buffers in hand before hop `h`, and at the first hop that its copies' slots are free. -/
def invBuf : sProp 𝕄 :=
  iprop(opt (h = 0) (factX (nxt c) h) ∗ opt (h = 0) (factA (nxt c) h)
    ∗ opt (h = 0) (xH c (slotOf h) fullShare (V.w h c) (V.r h c)) ∗ opt (h = 0) (aH c (slotOf h) (V.a h c))
    ∗ opt (31 ≤ h) (xSlot c (oth (slotOf h))) ∗ opt (32 ≤ h) (xSlot c (slotOf h)))

/-- What device `c` holds before hop `h`. -/
def Inv : sProp 𝕄 :=
  iprop(owesE c (oRest c h) ∗ (allX c (min h 30) ∗ allA c (h - 1)) ∗ invBuf V c h ∗ invPos c h ∗ invRead c h
    ∗ bigSep (Finset.Ico h 32) (fun k => iprop(hopTok (F := F) c k ∗ hopCred c k)))

omit [FloatOps F] in
/-- A resource held on a weaker condition may be held on a stronger one. -/
theorem opt_imp {p q : Prop} [Decidable p] [Decidable q] {R : sProp 𝕄} (hpq : q → p) : opt p R ⊢ opt q R := by
  by_cases hq : q
  · rw [opt_pos hq, opt_pos (hpq hq)]
  · rw [opt_neg hq]
    iintro -
    iempintro

/-- The positions after hop `h` are those before the next. -/
theorem invPos_succ (hh : h < 32) :
    iprop(pos c (kRx (slotOf h)) ((h + 1) / 2) ∗ pos c (kRx (oth (slotOf h))) (h / 2)
      ∗ pos c (kSx (slotOf h)) (if h ≤ 30 then h / 2 + 1 else h / 2) ∗ pos c (kSx (oth (slotOf h))) (if h ≤ 31 then (h + 1) / 2 else 15)
      ∗ pos c (kSa (slotOf h)) (h / 2) ∗ pos c (kSa (oth (slotOf h))) ((h + 1) / 2)
      ∗ cred (tallyAt (kcell c (kSa (slotOf h))) 0 NA)
      ∗ pos c (kRa (slotOf h)) ((h + 1) / 2) ∗ pos c (kRa (oth (slotOf h))) (h / 2)
      ∗ credSt c kCx 30 (allX (nxt c)) (min h 30) ∗ credSt c kCa 31 (allA (nxt c)) h) ⊢ invPos (F := F) c (h + 1) := by
  unfold invPos
  rw [slotOf_succ, oth_oth, show h + 1 - 1 = h from rfl, if_pos (by omega : h ≤ 31), opt_pos (by omega : 1 ≤ h + 1),
    show (if h ≤ 30 then h / 2 + 1 else h / 2) = (if h + 1 ≤ 31 then (h + 1 + 1) / 2 else 15) from by split <;> split <;> omega]
  iintro ⟨H1, H2, H3, H4, H5, H6, H7, H8, H9, H10, H11⟩
  isplitl [H2]; · iexact H2
  isplitl [H1]; · iexact H1
  isplitl [H4]; · iexact H4
  isplitl [H3]; · iexact H3
  isplitl [H6]; · iexact H6
  isplitl [H5]; · iexact H5
  isplitl [H7]; · iexact H7
  isplitl [H9]; · iexact H9
  isplitl [H8]; · iexact H8
  isplitl [H10] <;> iassumption

/-- The counts after hop `h` are those before the next. -/
theorem invRead_succ :
    iprop(opt (h ≤ 29) (Release.readerAt ES ((c, 0, slotOf h) : Key) ((h + 1) / 2 + 1))
      ∗ opt (h ≤ 28) (Release.readerAt ES ((c, 0, oth (slotOf h)) : Key) ((h + 2) / 2))
      ∗ Release.readerAt ES ((c, 1, oth (slotOf h)) : Key) (h / 2 + 1)
      ∗ Release.readerAt ES ((c, 1, slotOf h) : Key) ((h + 1) / 2)) ⊢ invRead (F := F) c (h + 1) := by
  unfold invRead
  rw [slotOf_succ, oth_oth, if_neg (by omega : ¬ h + 1 = 0), show (h + 1) / 2 + 1 = (h + 1 + 2) / 2 from by omega,
    show h / 2 + 1 = (h + 1 + 1) / 2 from by omega]
  iintro ⟨H1, H2, H3, H4⟩
  isplitl [H2]; · iapply (opt_imp (fun q : h + 1 ≤ 29 => (by omega : h ≤ 28))); iexact H2
  isplitl [H1]; · iapply (opt_imp (fun q : h + 1 ≤ 28 => (by omega : h ≤ 29))); iexact H1
  isplitl [H4]; · iexact H4
  iexact H3

/-- The buffers after hop `h` are those before the next. -/
theorem invBuf_succ :
    iprop(opt (30 ≤ h) (xSlot c (slotOf h)) ∗ opt (31 ≤ h) (xSlot c (oth (slotOf h)))) ⊢ invBuf V c (h + 1) := by
  unfold invBuf
  rw [slotOf_succ, oth_oth, opt_neg (by omega : ¬ h + 1 = 0), opt_neg (by omega : ¬ h + 1 = 0), opt_neg (by omega : ¬ h + 1 = 0),
    opt_neg (by omega : ¬ h + 1 = 0)]
  iintro ⟨H1, H2⟩
  isplitr; · iempintro
  isplitr; · iempintro
  isplitr; · iempintro
  isplitr; · iempintro
  isplitl [H1]; · iapply (opt_imp (fun q : 31 ≤ h + 1 => (by omega : 30 ≤ h))); iexact H1
  iapply (opt_imp (fun q : 32 ≤ h + 1 => (by omega : 31 ≤ h))); iexact H2

end

section
variable (V : Vals F) (K : Dev nD × CK → ℕ) (J : Key → ℕ) (c : Dev nD) {α : Type} (h : ℕ)

/-- Hop `h`. -/
theorem hop_wp (hh : h < 32) {Q : α → sProp 𝕄} {k : PUnit → P F α} :
    iprop(Know V K J ∗ Inv V c h)
      ⊢ iprop((Inv V c (h + 1) -∗ WP c (k ⟨⟩) Q) -∗ WP c (hop h c (V.ew c) (baseOf c) >>= k) Q) := by
  have hb := bigSep_Ico_succ_bot hh (fun k => iprop(hopTok (F := F) c k ∗ hopCred c k))
  have hposs := invPos_succ (F := F) c h hh
  have hread := invRead_succ (F := F) c h
  have hbuf := invBuf_succ V c h
  have aR : ∀ {b}, b < 16 * h + 20 → Above b (oRest c (h + 1)) := fun hb => above_oRest c (by omega)
  have aCx : ∀ {b}, b < 16 * h + 11 → Above b (oRest c (h + 1) + oCx c h) := fun hb => (aR (by omega)).add (above_oCx c hb)
  have aA : ∀ {b}, b < 16 * h + 9 → Above b (oRest c (h + 1) + oCx c h + oA c h) := fun hb =>
    (aCx (by omega)).add (above_oA c hh hb)
  have aCa : ∀ {b}, b < 16 * h + 6 → Above b (oRest c (h + 1) + oCx c h + oA c h + oCa c h) := fun hb =>
    (aA (by omega)).add (above_oCa c hh hb)
  have aX : ∀ {b}, b < 16 * h + 4 → Above b (oRest c (h + 1) + oCx c h + oA c h + oCa c h + oX c h) := fun hb =>
    (aCa (by omega)).add (above_oX c hb)
  conv_lhs => unfold Inv; rw [hb, oRest_succ c hh]; unfold hopTok hopCred invBuf invPos invRead
  unfold hop
  simp only [Prog.bind_assoc]
  iintro ⟨#HK, HO, ⟨#HallX, #HallA⟩, ⟨HfX, HfA, Hx0, Ha0, HxsO, -⟩,
    ⟨HpRx, HpRxO, HpSx, HpSxO, HpSa, HpSaO, HcSa, HpRa, HpRaO, HcCx, HcCa⟩, ⟨HrX, HrXO, HrAO, HrA⟩,
    ⟨⟨HtX, HtA, HtCa, HtCx⟩, ⟨HcrX, HcrCx, HcrA, HcrCa⟩⟩, Hrest⟩ Hk
  -- the token block
  iapply (p_recvX V K J c h (by omega) (fun _ => aX (by omega))) $$ [HO HcrX HpRx Hx0]
  · isplitr; · iexact HK
    isplitl [HO]; · iexact HO
    isplitl [HcrX]; · iexact HcrX
    isplitl [HpRx] <;> iassumption
  iintro ⟨HO, HpRx, Hx⟩
  iapply (p_credX V K J c h (fun _ => aX (by omega))) $$ [HO HcrCx HcCx HfX]
  · isplitr; · iexact HK
    isplitl [HO]; · iexact HO
    isplitl [HcrCx]; · iexact HcrCx
    isplitl [HcCx] <;> iassumption
  iintro ⟨HO, HcCx, HfX⟩
  iapply (p_sendX V K J c h) $$ [HO Hx HfX HtX HpSx]
  · isplitr; · iexact HK
    isplitl [HO]; · iexact HO
    isplitl [Hx]; · iexact Hx
    isplitl [HfX]; · iexact HfX
    isplitl [HtX] <;> iassumption
  iintro ⟨HO, HcSx, HpSx, Hx⟩
  iapply (p_loadW c h (qOf h) (V.w h c) (V.r h c)) $$ Hx
  iintro Hx
  iapply (p_loadR c h (qOf h) (V.w h c) (V.r h c)) $$ Hx
  iintro Hx
  -- the accumulator
  iapply (p_sentA V K J c h (by omega) (aCa (by omega))) $$ [HO HcSa HpSaO]
  · isplitr; · iexact HK
    isplitl [HO]; · iexact HO
    isplitl [HcSa] <;> iassumption
  iintro ⟨HO, HpSaO, Has⟩
  iapply (p_freeA V K J c h (by omega)) $$ [HO Has HrAO HtCa HpRaO]
  · isplitr; · iexact HK
    isplitl [HO]; · iexact HO
    isplitl [Has]; · iexact Has
    isplitl [HrAO]; · iexact HrAO
    isplitl [HtCa]; · iexact HtCa
    isplitl [HpRaO]; · iexact HpRaO
    iexact HallA
  iintro ⟨HO, HrAO, HpRaO, #HallA'⟩
  iapply (p_recvA V K J c h (by omega) (fun _ => aA (by omega))) $$ [HO HcrA HpRa Ha0]
  · isplitr; · iexact HK
    isplitl [HO]; · iexact HO
    isplitl [HcrA]; · iexact HcrA
    isplitl [HpRa] <;> iassumption
  iintro ⟨HO, HpRa, Ha⟩
  iapply (p_credA V K J c h (by omega) (aA (by omega))) $$ [HO HcrCa HcCa HfA]
  · isplitr; · iexact HK
    isplitl [HO]; · iexact HO
    isplitl [HcrCa]; · iexact HcrCa
    isplitl [HcCa] <;> iassumption
  iintro ⟨HO, HcCa, HfA⟩
  iapply (p_loadA c h (V.a h c)) $$ Ha
  iintro Ha
  iapply (p_loadA c h (V.a h c)) $$ Ha
  iintro Ha
  iapply (p_storeA c h (V.a h c) (V.a' h c)) $$ Ha
  iintro Ha
  iapply (p_sendA V K J c h hh) $$ [HO Ha HfA HtA HpSa]
  · isplitr; · iexact HK
    isplitl [HO]; · iexact HO
    isplitl [Ha]; · iexact Ha
    isplitl [HfA]; · iexact HfA
    isplitl [HtA] <;> iassumption
  iintro ⟨HO, HcSa, HpSa⟩
  -- the token block has left
  iapply (p_sentX V K J c h (aCx (by omega))) $$ [HO HcSx HpSx Hx]
  · isplitr; · iexact HK
    isplitl [HO]; · iexact HO
    isplitl [HcSx]; · iexact HcSx
    isplitl [HpSx] <;> iassumption
  iintro ⟨HO, HpSx, Hx⟩
  iapply (p_freeX V K J c h) $$ [HO Hx HrX HtCx HpRx]
  · isplitr; · iexact HK
    isplitl [HO]; · iexact HO
    isplitl [Hx]; · iexact Hx
    isplitl [HrX]; · iexact HrX
    isplitl [HtCx]; · iexact HtCx
    isplitl [HpRx]; · iexact HpRx
    iexact HallX
  iintro ⟨HO, HrX, HpRx, #HallX', Hxs⟩
  iapply Hk
  unfold Inv
  isplitl [HO]; · iexact HO
  isplitr
  · isplitr; · iexact HallX'
    iexact HallA'
  isplitl [Hxs HxsO]
  · iapply hbuf; isplitl [Hxs] <;> iassumption
  isplitl [HpRx HpRxO HpSx HpSxO HpSa HpSaO HcSa HpRa HpRaO HcCx HcCa]
  · iapply hposs
    isplitl [HpRx]; · iexact HpRx
    isplitl [HpRxO]; · iexact HpRxO
    isplitl [HpSx]; · iexact HpSx
    isplitl [HpSxO]; · iexact HpSxO
    isplitl [HpSa]; · iexact HpSa
    isplitl [HpSaO]; · iexact HpSaO
    isplitl [HcSa]; · iexact HcSa
    isplitl [HpRa]; · iexact HpRa
    isplitl [HpRaO]; · iexact HpRaO
    isplitl [HcCx] <;> iassumption
  isplitl [HrX HrXO HrAO HrA]
  · iapply hread
    isplitl [HrX]; · iexact HrX
    isplitl [HrXO]; · iexact HrXO
    isplitl [HrAO] <;> iassumption
  iexact Hrest

/-- The hops from `h` to the last, then `e`. -/
theorem hops_wp {Q : PUnit → sProp 𝕄} (e : P F PUnit) : ∀ (n h : ℕ), h + n = 32 →
    iprop(Know V K J ∗ Inv V c h) ⊢ iprop((Inv V c 32 -∗ WP c e Q) -∗ WP c (hops c (V.ew c) (baseOf c) e n h) Q)
  | 0, h, hn => by
    obtain rfl : h = 32 := by omega
    unfold hops
    iintro ⟨-, HI⟩ Hk
    iapply Hk
    iexact HI
  | n + 1, h, hn => by
    have ih := hops_wp e n (h + 1) (by omega) (Q := Q)
    unfold hops
    iintro ⟨#HK, HI⟩ Hk
    iapply (hop_wp V K J c h (by omega)) $$ [HI]
    · isplitr <;> iassumption
    iintro HI
    iapply ih $$ [HI]
    · isplitr <;> iassumption
    iexact Hk

end

end Cert.KernelIdeal.Ring

end
-- ==== Proof.Body.lean ====
/- The whole body of one device: the handshake and the first blocks, the hops, and the block come home. -/
module

public import proofs.«01_k».proof.Proof.Hop

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device reads and what it starts the ring with -/

/-- The device's blocks of the five arguments, as its kernel finds them. -/
structure Ins (F : FTy → Type) where
  x : Dev nD → Vec F S512x256 .f32
  rw : Dev nD → Vec F S256x128 .f32
  rt : Dev nD → Vec F S512x1 .i32
  ew : Dev nD → Vec F S4x256x512 .f32
  sw : Dev nD → Vec F S256x512 .f32

/-- What each device starts the ring with. -/
def Ins.vals (I : Ins F) : Vals F where
  w0 c := k0_pay4 (k0_pay1 (I.x c)) (k0_pay2 (I.x c) (I.rw c)) (k0_pay3 (I.rt c))
  r0 c := k0_pay5 (I.rt c)
  a0 c := k0_pay6 (k0_pay1 (I.x c)) (I.sw c)
  ew c := k0_pay7 (I.ew c)

/-- A whole buffer of device `c`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What device `c` owes when it starts: the hops' payments and a unit on each neighbour's barrier. -/
def O₁ (c : Dev nD) : CellTallies nD τ sig ℕ := oRest c 0 + tallyAt (kcell (nxt c) kBar) 1 1
def O₀ (c : Dev nD) : CellTallies nD τ sig ℕ := O₁ c + tallyAt (kcell (prv c) kBar) 1 1

/-- What a device owes at the start lies above level 0. -/
theorem above_O₀ (c : Dev nD) : Above 0 (O₀ c) :=
  ((above_oRest c (by omega)).add (Above.tallyAt (by omega) (by omega))).add (Above.tallyAt (by omega) (by omega))

omit [FloatOps F] in
/-- Two zero offsets. -/
theorem hz2 : (![0, 0] : Fin 2 → Nat) = fun _ => 0 := funext fun a => by fin_cases a <;> rfl
omit [FloatOps F] in
/-- Three zero offsets. -/
theorem hz3 : (![0, 0, 0] : Fin 3 → Nat) = fun _ => 0 := funext fun a => by fin_cases a <;> rfl

/-- A load whose reading is `X` hands on `X`. -/
theorem load_whole (c : Dev nD) {cs : CoreSpace} {s : Shape} {e : EltTy} (m : Memref sig .tc cs s e) (r : LoadRect s) (hl : m.view.LoadsAt r)
    (f : Buf (Elt F) (m.view.loc (c : Thread nD τ))) (X : r.shape.Idx → Elt F e) (hX : m.view.readAt (Elt F) r f = X)
    {α : Type} {Q : α → sProp 𝕄} {k : (r.shape.Idx → Elt F e) → P F α} :
    ((m.view.loc (c : Thread nD τ)) ↦{fullShare} f : sProp 𝕄)
      ⊢ iprop((((m.view.loc (c : Thread nD τ)) ↦{fullShare} f : sProp 𝕄) -∗ WP c (k X) Q)
          -∗ WP c (.op (.load m r hl) k) Q) := by
  subst hX
  exact wp_load 𝒱₀ (c : Thread nD τ) none Set.univ (m := m) (Finset.subset_univ _)

/-! ## The start of the ring -/

section
variable (V : Vals F) (c : Dev nD)

/-- The cells at the start: every position at its first round, no unit of credit consumed. -/
def startPos : sProp 𝕄 :=
  iprop(pos c (kRx 0) 0 ∗ pos c (kRx 1) 0 ∗ pos c (kSx 0) 0 ∗ pos c (kSx 1) 0 ∗ pos c (kSa 0) 0 ∗ pos c (kSa 1) 0
    ∗ pos c (kRa 0) 0 ∗ pos c (kRa 1) 0 ∗ credSt c kCx 30 (allX (nxt c)) 0 ∗ credSt c kCa 31 (allA (nxt c)) 0)
/-- The payments and the credit of all the hops. -/
def startHop : sProp 𝕄 := bigSep (Finset.Ico 0 32) (fun k => iprop(hopTok (F := F) c k ∗ hopCred c k))
/-- The release counts of the device's slots at the start. -/
def startRead (n : ℕ) : sProp 𝕄 :=
  iprop(Release.readerAt ES ((c, 0, 0) : Key) 0 ∗ Release.readerAt ES ((c, 0, 1) : Key) n
    ∗ Release.readerAt ES ((c, 1, 1) : Key) n ∗ Release.readerAt ES ((c, 1, 0) : Key) 0)

/-- What a device holds before the first hop, put together. -/
theorem inv_start :
    iprop(owesE c (oRest c 0) ∗ factX c 0 ∗ factA c 0 ∗ factX (nxt c) 0 ∗ factA (nxt c) 0
      ∗ xH c 0 fullShare (V.w0 c) (V.r0 c) ∗ aH c 0 (V.a0 c) ∗ startPos c ∗ startRead c 1 ∗ startHop c) ⊢ Inv V c 0 := by
  unfold Inv invBuf invPos invRead startPos startRead startHop
  rw [opt_pos rfl, opt_pos rfl, opt_pos rfl, opt_pos rfl, opt_neg (by omega : ¬ 31 ≤ 0), opt_neg (by omega : ¬ 32 ≤ 0),
    if_pos (by omega : 0 ≤ 31), opt_neg (by omega : ¬ 1 ≤ 0), if_pos rfl, opt_pos (by omega : 0 ≤ 29), opt_pos (by omega : 0 ≤ 28)]
  iintro ⟨HO, H1, H2, H3, H4, Hx, Ha, ⟨P1, P2, P3, P4, P5, P6, P7, P8, P9, P10⟩, ⟨R1, R2, R3, R4⟩, Hh⟩
  isplitl [HO]; · iexact HO
  isplitl [H1 H2]
  · isplitl [H1]; · iapply (allX_zero c); iexact H1
    iapply (allA_zero c); iexact H2
  isplitl [H3 H4 Hx Ha]
  · isplitl [H3]; · iexact H3
    isplitl [H4]; · iexact H4
    isplitl [Hx]; · iexact Hx
    isplitl [Ha]; · iexact Ha
    isplitr <;> iempintro
  isplitl [P1 P2 P3 P4 P5 P6 P7 P8 P9 P10]
  · isplitl [P1]; · iexact P1
    isplitl [P2]; · iexact P2
    isplitl [P3]; · iexact P3
    isplitl [P4]; · iexact P4
    isplitl [P5]; · iexact P5
    isplitl [P6]; · iexact P6
    isplitr; · iempintro
    isplitl [P7]; · iexact P7
    isplitl [P8]; · iexact P8
    isplitl [P9]; · iexact P9
    iexact P10
  isplitl [R1 R2 R3 R4]
  · isplitl [R1]; · iexact R1
    isplitl [R2]; · iexact R2
    isplitl [R3]; · iexact R3
    iexact R4
  iexact Hh
end

section
variable (I : Ins F) (K : Dev nD × CK → ℕ) (J : Key → ℕ) (c : Dev nD)

/-- The cell of the barrier is passed: both neighbours' units are in. -/
theorem wait_bar {O : CellTallies nD τ sig ℕ} (hO : Above 1 O) (V : Vals F)
    {α : Type} {Q : α → sProp 𝕄} {kk : PUnit → P F α} :
    iprop(Know V K J ∗ cred (tallyAt (kcell c kBar) 1 2) ∗ owesE c O ∗ pos c kBar 0)
      ⊢ iprop(((owesE c O ∗ pos c kBar 1 ∗ factX (nxt c) 0 ∗ factA (nxt c) 0) -∗ WP c (kk ⟨⟩) Q)
          -∗ WP c (.op (.semWait barS.sem 2) kk) Q) := by
  have hrest := rest_bar V c
  unfold Know owesE pos
  iintro ⟨⟨#HC, #Hlev⟩, Hc, ⟨%W, HO⟩, Hat, -⟩ Hk
  ihave #Hinv := (Ctx_cell V K J c kBar) $$ HC
  iapply (Rounds.wp_wait_rest_token 𝒱₀ ER (Rd V) (c : Thread nD τ) none (κ := K (c, kBar)) (wpE_semWait_eq 𝒱₀ (c : Thread nD τ) none Set.univ)
    (Set.mem_univ _) 1 (O := O) (W := W) (R := 0) (m := 0) (T := ∅)
    (by rw [expect_k V c kBar 0]; decide)) $$ [Hc HO Hat]
  · isplitr; · iexact Hinv
    isplitl [Hc]; · iexact Hc
    isplitl [HO]; · iexact HO
    isplitr; · iapply (mayWait_of_above c (csem kBar) (by omega) hO); iexact Hlev
    iexact Hat
  iintro ⟨HO, Hat, Hr, Hpay⟩
  ihave Hp := (Entails.of_eq hrest) $$ Hpay
  icases Hp with ⟨-, H1, H2⟩
  iapply Hk
  isplitl [HO]; · iexists _; iexact HO
  isplitl [Hat Hr]
  · isplitl [Hat] <;> iassumption
  isplitl [H1] <;> iassumption

/-- What a device holds when its kernel starts. -/
def entry : sProp 𝕄 :=
  iprop(owesE c (O₀ c) ∗ cred (tallyAt (kcell c kBar) 1 2) ∗ pos c kBar 0
    ∗ dutyTok ER (kcell (prv c) kBar) 0 1 ∗ dutyTok ER (kcell (nxt c) kBar) 0 0
    ∗ startRead c 0 ∗ (xSlot c 0 ∗ xSlot c 1 ∗ aSlot c 0 ∗ aSlot c 1) ∗ startPos c ∗ startHop c)

/-- The five staged blocks of device `c`. -/
def stgs : sProp 𝕄 :=
  iprop(stg c cc0_stg0_0 (I.x c) ∗ stg c cc0_stg1_0 (I.rw c) ∗ stg c cc0_stg2_0 (I.rt c) ∗ stg c cc0_stg3_0 (I.ew c) ∗ stg c cc0_stg4_0 (I.sw c))

/-- The second slots given up before the handshake. -/
theorem give_second (V : Vals F) :
    iprop(Know V K J ∗ startRead c 0 ∗ xSlot c 1 ∗ aSlot c 1)
      ⊢ iprop(|={Set.univ}=> (startRead c 1 ∗ factX c 0 ∗ factA c 0)) := by
  unfold Know startRead
  iintro ⟨⟨#HC, #Hlev⟩, ⟨R1, R2, R3, R4⟩, Hx, Ha⟩
  ihave #HIx := (Ctx_slot V K J (c, 0, 1)) $$ HC
  ihave #HIa := (Ctx_slot V K J (c, 1, 1)) $$ HC
  ihave #Hrx := (Ctx_reached V K J c (kRx 1)) $$ HC
  ihave #Hra := (Ctx_reached V K J c (kRa 1)) $$ HC
  imod (Release.slot_release ES (Es := Set.univ) (Set.mem_univ _) (S := keySlot (F := F) (c, 0, 1))
    (by rw [keySlot_x_eq]; exact xSlot_false c _) 0) $$ [Hx R2] with ⟨R2, #Hr2⟩
  · isplitr; · iexact HIx
    isplitl [R2]; · iexact R2
    iapply (Entails.of_eq (keySlot_x_eq c 1).symm); iexact Hx
  imod (Release.slot_release ES (Es := Set.univ) (Set.mem_univ _) (S := keySlot (F := F) (c, 1, 1))
    (by rw [keySlot_a_eq]; exact aSlot_false c _) 0) $$ [Ha R3] with ⟨R3, #Hr3⟩
  · isplitr; · iexact HIa
    isplitl [R3]; · iexact R3
    iapply (Entails.of_eq (keySlot_a_eq c 1).symm); iexact Ha
  imodintro
  isplitl [R1 R2 R3 R4]
  · isplitl [R1]; · iexact R1
    isplitl [R2]; · iexact R2
    isplitl [R3]; · iexact R3
    iexact R4
  unfold factX factA
  isplitr
  · isplitr; · iexact Hr2
    iexact Hrx
  · isplitr; · iexact Hr3
    iexact Hra

/-- The first token block, stored. -/
theorem first_x (w : Vec F S1x512x256 .bf16) (r : Vec F S1x512x1 .bf16) (f : Buf (Elt F) ((xS 0).view.loc (c : Thread nD τ))) :
    ((xS 0).view.loc (c : Thread nD τ) ↦[(xS 0).view.set]{fullShare}
      ((xM.access (boxXr 0)).write (Elt F) ((xM.access (boxXw 0)).write (Elt F) f w Finset.univ) r Finset.univ) : sProp 𝕄)
      ⊢ xH c 0 fullShare w r := by
  have h1 := (kept_W 0 ((xM.access (boxXw 0)).write (Elt F) f w Finset.univ) r).trans (stored_W 0 f w)
  have h2 := stored_R 0 ((xM.access (boxXw 0)).write (Elt F) f w Finset.univ) r
  unfold xH
  iintro H
  iexists _
  isplitr; swap
  · iexact H
  ipureintro; exact ⟨h1, h2⟩

/-- The prologue. -/
theorem prologue_wp {α : Type} {Q : α → sProp 𝕄} {k : FVec F S1024x512 .bf16 → P F α} :
    iprop(Know I.vals K J ∗ entry c ∗ stgs I c)
      ⊢ iprop(((Inv I.vals c 0 ∗ pos c kBar 1 ∗ stgs I c) -∗ WP c (k (I.vals.ew c)) Q)
          -∗ WP c (prologue (Memref.whole cc0_stg0_0) (Memref.whole cc0_stg1_0) (Memref.whole cc0_stg2_0) (Memref.whole cc0_stg3_0)
              (Memref.whole cc0_stg4_0) c >>= k) Q) := by
  have hpay1 : iprop(factX c 0 ∗ factA c 0) ⊢ (Rd I.vals).payload (kcell (prv c) kBar) 0 1 := by
    rw [payload_k I.vals (prv c) kBar]
    show _ ⊢ iprop(factX (nxt (prv c)) 0 ∗ factA (nxt (prv c)) 0)
    rw [nxt_prv]
  have hpay0 : iprop(emp) ⊢ (Rd I.vals).payload (kcell (nxt c) kBar) 0 0 := by
    rw [payload_k I.vals (nxt c) kBar]
    exact Entails.of_eq rfl
  have hinv := inv_start I.vals c
  have hgive := give_second K J c I.vals
  have hbar := fun {α : Type} (Q : α → sProp 𝕄) (kk : PUnit → P F α) => wait_bar K J c (O := oRest c 0) (above_oRest c (by omega)) I.vals (Q := Q) (kk := kk)
  have hnow : Know I.vals K J ⊢ Ctx I.vals K J := by unfold Know; iintro ⟨H, -⟩; iexact H
  have hxs : xSlot (F := F) c 0 ⊢ iprop(∃ f, (xS 0).view.loc (c : Thread nD τ) ↦[(xS 0).view.set]{fullShare} f) := Entails.of_eq rfl
  unfold entry stgs prologue
  simp only [Prog.bind_assoc, semSignalWord, semWaitWord, Prog.lift, Prog.bind_op, Prog.bind_ret, Prog.pure_eq_ret, dev1_eq c, dev2_eq c]
  iintro ⟨#HK, ⟨HO, HcB, HpB, Ht1, Ht0, HR, ⟨Hx0, Hx1, Ha0, Ha1⟩, HP, HH⟩, ⟨%f0, %h0, S0⟩, ⟨%f1, %h1, S1⟩, ⟨%f2, %h2, S2⟩, ⟨%f3, %h3, S3⟩, ⟨%f4, %h4, S4⟩⟩ Hk
  subst h0; subst h1; subst h2; subst h3; subst h4
  ihave #HC := hnow $$ HK
  imod hgive $$ [HR Hx1 Ha1] with ⟨HR, #HfX, #HfA⟩
  · isplitr; · iexact HK
    isplitl [HR]; · iexact HR
    isplitl [Hx1] <;> iassumption
  -- the handshake
  ihave #HIp := (Ctx_cell I.vals K J (prv c) kBar) $$ HC
  ihave #HIn := (Ctx_cell I.vals K J (nxt c) kBar) $$ HC
  ihave #HRp := (Ctx_reached I.vals K J (prv c) kBar) $$ HC
  ihave #HRn := (Ctx_reached I.vals K J (nxt c) kBar) $$ HC
  unfold owesE
  icases HO with ⟨%W, HO⟩
  iapply (Rounds.wp_signal 𝒱₀ ER (Rd I.vals) (c : Thread nD τ) none (dst := (prv c : Thread nD τ)) (κ := K (prv c, kBar)) (r := 0)
      (d := 1) (by rw [duties_k I.vals (prv c) kBar]; decide)
      ((amount_k I.vals (prv c) kBar 0 1).trans (by decide)) 1 (O₁ c) rfl) $$ [HO Ht1]
  · isplitr; · iexact HIp
    isplitl [HO]; · iexact HO
    isplitl [Ht1]; · iexact Ht1
    isplitr
    · iapply hpay1; isplitr; · iexact HfX
      iexact HfA
    iexact HRp
  iintro HO
  iapply (Rounds.wp_signal 𝒱₀ ER (Rd I.vals) (c : Thread nD τ) none (dst := (nxt c : Thread nD τ)) (κ := K (nxt c, kBar)) (r := 0)
      (d := 0) (by rw [duties_k I.vals (nxt c) kBar]; decide)
      ((amount_k I.vals (nxt c) kBar 0 0).trans (by decide)) 1 (oRest c 0) rfl) $$ [HO Ht0]
  · isplitr; · iexact HIn
    isplitl [HO]; · iexact HO
    isplitl [Ht0]; · iexact Ht0
    isplitr
    · iapply hpay0; iempintro
    iexact HRn
  iintro HO
  iapply (hbar _ _) $$ [HcB HO HpB]
  · isplitr; · iexact HK
    isplitl [HcB]; · iexact HcB
    isplitl [HO]; · unfold owesE; iexists _; iexact HO
    iexact HpB
  iintro ⟨HO, HpB, HnX, HnA⟩
  -- the first token block
  iapply (load_whole c (Memref.whole cc0_stg0_0) _ _ _ _ (Memref.readAt_unit_zero (Elt F) cc0_stg0_0 hz2 _ _)) $$ S0; iintro S0
  iapply (load_whole c (Memref.whole cc0_stg1_0) _ _ _ _ (Memref.readAt_unit_zero (Elt F) cc0_stg1_0 hz2 _ _)) $$ S1; iintro S1
  iapply (load_whole c (Memref.whole cc0_stg2_0) _ _ _ _ (Memref.readAt_unit_zero (Elt F) cc0_stg2_0 hz2 _ _)) $$ S2; iintro S2
  ihave Hx0' := hxs $$ Hx0
  icases Hx0' with ⟨%fx, Hx⟩
  iapply (wp_load 𝒱₀ (c : Thread nD τ) none Set.univ (m := xM) (r := (boxXw 0).toLoadRect) (S := (xS 0).view.set) (q := fullShare) (f := fx) (subW 0)) $$ Hx
  iintro Hx
  iapply (wp_store 𝒱₀ (c : Thread nD τ) none Set.univ (m := xM) (r := boxXw 0) (Mk := Finset.univ) (S := (xS 0).view.set) (f := fx) (subW' 0)) $$ Hx
  iintro Hx
  iapply (load_whole c (Memref.whole cc0_stg2_0) _ _ _ _ (Memref.readAt_unit_zero (Elt F) cc0_stg2_0 hz2 _ _)) $$ S2; iintro S2
  iapply (wp_load 𝒱₀ (c : Thread nD τ) none Set.univ (m := xM) (r := (boxXr 0).toLoadRect) (S := (xS 0).view.set) (q := fullShare) (subR 0)) $$ Hx
  iintro Hx
  iapply (wp_store 𝒱₀ (c : Thread nD τ) none Set.univ (m := xM) (r := boxXr 0) (Mk := Finset.univ) (S := (xS 0).view.set) (subR' 0)) $$ Hx
  iintro Hx
  ihave Hx' := (first_x c _ _ fx) $$ Hx
  -- the first accumulator
  iapply (load_whole c (Memref.whole cc0_stg4_0) _ _ _ _ (Memref.readAt_unit_zero (Elt F) cc0_stg4_0 hz2 _ _)) $$ S4; iintro S4
  iapply (p_loadA_any c 0) $$ [Ha0]
  · iexact Ha0
  iintro %a0 Ha
  iapply (p_storeA c 0 a0) $$ Ha
  iintro Ha
  iapply (load_whole c (Memref.whole cc0_stg3_0) _ _ _ _ (Memref.readAt_unit_zero (Elt F) cc0_stg3_0 hz3 _ _)) $$ S3; iintro S3
  iapply Hk
  isplitl [HO HnX HnA Hx' Ha HP HR HH]
  · iapply hinv
    isplitl [HO]; · iexact HO
    isplitr; · iexact HfX
    isplitr; · iexact HfA
    isplitl [HnX]; · iexact HnX
    isplitl [HnA]; · iexact HnA
    isplitl [Hx']; · iexact Hx'
    isplitl [Ha]; · iexact Ha
    isplitl [HP]; · iexact HP
    isplitl [HR] <;> iassumption
  isplitl [HpB]; · iexact HpB
  isplitl [S0]; · iexists _; isplitr; · ipureintro; rfl
                  iexact S0
  isplitl [S1]; · iexists _; isplitr; · ipureintro; rfl
                  iexact S1
  isplitl [S2]; · iexists _; isplitr; · ipureintro; rfl
                  iexact S2
  isplitl [S3]; · iexists _; isplitr; · ipureintro; rfl
                  iexact S3
  iexists _; isplitr; · ipureintro; rfl
  iexact S4

end

end Cert.KernelIdeal.Ring

end
-- ==== Proof.Body2.lean ====
/- The end of the ring, the whole body of one device, and the body as the pipeline's obligation. -/
module

public import proofs.«01_k».proof.Proof.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig ℕ (Elt F) ℕ UU ℕ

/-! ## A buffer is its two slots -/

omit [FloatOps F] in
/-- The two token slots are apart. -/
theorem disjX : Disjoint (xS 0).view.set (xS 1).view.set := by
  rw [setX, setX, Finset.disjoint_left]
  intro i h0 h1
  have a0 := (Rect.mem_set_unit.mp h0 0).2
  have a1 := (Rect.mem_set_unit.mp h1 0).1
  have b0 : (i 0 : ℕ) < 0 + 1 := a0
  have b1 : 1 ≤ (i 0 : ℕ) := a1
  omega
omit [FloatOps F] in
/-- The two accumulator slots are apart. -/
theorem disjA : Disjoint (aS 0).view.set (aS 1).view.set := by
  rw [setA, setA, Finset.disjoint_left]
  intro i h0 h1
  have a0 := (Rect.mem_set_unit.mp h0 0).2
  have a1 := (Rect.mem_set_unit.mp h1 0).1
  have b0 : (i 0 : ℕ) < 0 + 1 := a0
  have b1 : 1 ≤ (i 0 : ℕ) := a1
  omega
omit [FloatOps F] in
/-- The two token slots make up their buffer. -/
theorem coverX : (xS 0).view.set ∪ (xS 1).view.set = (Finset.univ : Finset S2x512x384.Idx) := by
  rw [setX, setX]
  refine Finset.eq_univ_iff_forall.mpr fun i => Finset.mem_union.mpr ?_
  have h0 : (i 0 : ℕ) < 2 := (i 0).isLt
  have h1 : (i 1 : ℕ) < 512 := (i 1).isLt
  have h2 : (i 2 : ℕ) < 384 := (i 2).isLt
  by_cases h : (i 0 : ℕ) = 0
  · refine .inl (Rect.mem_set_unit.mpr fun a => ?_)
    fin_cases a
    · exact ⟨Nat.zero_le _, show (i 0 : ℕ) < 0 + 1 by omega⟩
    · exact ⟨Nat.zero_le _, show (i 1 : ℕ) < 0 + 512 by omega⟩
    · exact ⟨Nat.zero_le _, show (i 2 : ℕ) < 0 + 384 by omega⟩
  · refine .inr (Rect.mem_set_unit.mpr fun a => ?_)
    fin_cases a
    · exact ⟨show 1 ≤ (i 0 : ℕ) by omega, show (i 0 : ℕ) < 1 + 1 by omega⟩
    · exact ⟨Nat.zero_le _, show (i 1 : ℕ) < 0 + 512 by omega⟩
    · exact ⟨Nat.zero_le _, show (i 2 : ℕ) < 0 + 384 by omega⟩
omit [FloatOps F] in
/-- The two accumulator slots make up their buffer. -/
theorem coverA : (aS 0).view.set ∪ (aS 1).view.set = (Finset.univ : Finset S2x512x512.Idx) := by
  rw [setA, setA]
  refine Finset.eq_univ_iff_forall.mpr fun i => Finset.mem_union.mpr ?_
  have h0 : (i 0 : ℕ) < 2 := (i 0).isLt
  have h1 : (i 1 : ℕ) < 512 := (i 1).isLt
  have h2 : (i 2 : ℕ) < 512 := (i 2).isLt
  by_cases h : (i 0 : ℕ) = 0
  · refine .inl (Rect.mem_set_unit.mpr fun a => ?_)
    fin_cases a
    · exact ⟨Nat.zero_le _, show (i 0 : ℕ) < 0 + 1 by omega⟩
    · exact ⟨Nat.zero_le _, show (i 1 : ℕ) < 0 + 512 by omega⟩
    · exact ⟨Nat.zero_le _, show (i 2 : ℕ) < 0 + 512 by omega⟩
  · refine .inr (Rect.mem_set_unit.mpr fun a => ?_)
    fin_cases a
    · exact ⟨show 1 ≤ (i 0 : ℕ) by omega, show (i 0 : ℕ) < 1 + 1 by omega⟩
    · exact ⟨Nat.zero_le _, show (i 1 : ℕ) < 0 + 512 by omega⟩
    · exact ⟨Nat.zero_le _, show (i 2 : ℕ) < 0 + 512 by omega⟩

/-- The two buffers of device `c`, whatever they hold. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

omit [FloatOps F] in
/-- The two buffers, split into their slots. -/
theorem slots_of_bufs (c : Dev nD) : bufs (F := F) c ⊢ iprop(xSlot c 0 ∗ xSlot c 1 ∗ aSlot c 0 ∗ aSlot c 1) := by
  have hX : ∀ f : Buf (Elt F) ((c : Thread nD τ).loc cc0_scratch0), (((c : Thread nD τ).loc cc0_scratch0) ↦{fullShare} f : sProp 𝕄)
      ⊢ iprop((((c : Thread nD τ).loc cc0_scratch0) ↦[(xS 0).view.set]{fullShare} f) ∗ (((c : Thread nD τ).loc cc0_scratch0) ↦[(xS 1).view.set]{fullShare} f)) := by
    intro f
    refine (Entails.of_eq ?_).trans (pointsTo_union disjX).1
    rw [coverX]
  have hA : ∀ f : Buf (Elt F) ((c : Thread nD τ).loc cc0_scratch1), (((c : Thread nD τ).loc cc0_scratch1) ↦{fullShare} f : sProp 𝕄)
      ⊢ iprop((((c : Thread nD τ).loc cc0_scratch1) ↦[(aS 0).view.set]{fullShare} f) ∗ (((c : Thread nD τ).loc cc0_scratch1) ↦[(aS 1).view.set]{fullShare} f)) := by
    intro f
    refine (Entails.of_eq ?_).trans (pointsTo_union disjA).1
    rw [coverA]
  unfold bufs xSlot aSlot Release.slot
  iintro ⟨⟨%f, Hf⟩, ⟨%g, Hg⟩⟩
  ihave H := (hX f) $$ Hf
  icases H with ⟨H0, H1⟩
  ihave H' := (hA g) $$ Hg
  icases H' with ⟨G0, G1⟩
  isplitl [H0]; · iexists f; iexact H0
  isplitl [H1]; · iexists f; iexact H1
  isplitl [G0]; · iexists g; iexact G0
  iexists g; iexact G1

omit [FloatOps F] in
/-- The slots, joined into the two buffers. -/
theorem bufs_of_slots (c : Dev nD) : iprop(xSlot c 0 ∗ xSlot c 1 ∗ aSlot c 0 ∗ aSlot c 1) ⊢ bufs (F := F) c := by
  have hX : ∀ f g : Buf (Elt F) ((c : Thread nD τ).loc cc0_scratch0),
      iprop((((c : Thread nD τ).loc cc0_scratch0) ↦[(xS 0).view.set]{fullShare} f) ∗ (((c : Thread nD τ).loc cc0_scratch0) ↦[(xS 1).view.set]{fullShare} g))
        ⊢ (((c : Thread nD τ).loc cc0_scratch0) ↦{fullShare} ((xS 1).view.set.piecewise g f) : sProp 𝕄) := by
    intro f g
    refine (pointsTo_join disjX).trans (Entails.of_eq ?_)
    rw [coverX]
  have hA : ∀ f g : Buf (Elt F) ((c : Thread nD τ).loc cc0_scratch1),
      iprop((((c : Thread nD τ).loc cc0_scratch1) ↦[(aS 0).view.set]{fullShare} f) ∗ (((c : Thread nD τ).loc cc0_scratch1) ↦[(aS 1).view.set]{fullShare} g))
        ⊢ (((c : Thread nD τ).loc cc0_scratch1) ↦{fullShare} ((aS 1).view.set.piecewise g f) : sProp 𝕄) := by
    intro f g
    refine (pointsTo_join disjA).trans (Entails.of_eq ?_)
    rw [coverA]
  unfold bufs xSlot aSlot Release.slot
  iintro ⟨⟨%f, Hf⟩, ⟨%g, Hg⟩, ⟨%f', Hf'⟩, ⟨%g', Hg'⟩⟩
  isplitl [Hf Hg]
  · iexists _; iapply (hX f g); isplitl [Hf] <;> iassumption
  iexists _; iapply (hA f' g'); isplitl [Hf'] <;> iassumption

/-! ## The end of the ring -/

section
variable (V : Vals F) (K : Dev nD × CK → ℕ) (J : Key → ℕ) (c : Dev nD)

/-- The cells past their last rounds. -/
def endPos : sProp 𝕄 :=
  iprop(pos c kBar 1 ∗ pos c (kRx 0) 15 ∗ pos c (kRx 1) 16 ∗ pos c (kSx 0) 16 ∗ pos c (kSx 1) 15 ∗ pos c (kSa 0) 16 ∗ pos c (kSa 1) 16
    ∗ pos c (kRa 0) 16 ∗ pos c (kRa 1) 16 ∗ credSt c kCx 30 (allX (nxt c)) 30 ∗ credSt c kCa 31 (allA (nxt c)) 31)

/-- All the cells of device `c` at zero. -/
def zeros : sProp 𝕄 := bigSep Finset.univ (fun k : CK => semVal (kcell c k) 0)

omit [FloatOps F] in
/-- A device's counters at zero, written out. -/
theorem zeros_eq : zeros (F := F) c = iprop(semVal (kcell c kBar) 0 ∗ semVal (kcell c kCx) 0 ∗ semVal (kcell c kCa) 0
    ∗ semVal (kcell c (kSx 0)) 0 ∗ semVal (kcell c (kSx 1)) 0 ∗ semVal (kcell c (kRx 0)) 0 ∗ semVal (kcell c (kRx 1)) 0
    ∗ semVal (kcell c (kSa 0)) 0 ∗ semVal (kcell c (kSa 1)) 0 ∗ semVal (kcell c (kRa 0)) 0 ∗ semVal (kcell c (kRa 1)) 0) :=
  bigSep_univ_eq_bigSepL [kBar, kCx, kCa, kSx 0, kSx 1, kRx 0, kRx 1, kSa 0, kSa 1, kRa 0, kRa 1] (by decide) (by decide) _

/-- Every cell of the device is closed, and its count is zero. -/
theorem close_all : iprop(Know V K J ∗ endPos c) ⊢ iprop(|={Set.univ}=> zeros c) := by
  have hbar := close_cell V K J c kBar 1 (by intro r hr; simp [dutiesK]; omega)
  have hrx0 := close_cell V K J c (kRx 0) 15 (by intro r hr; simp [dutiesK]; omega)
  have hrx1 := close_cell V K J c (kRx 1) 16 (by intro r hr; simp [dutiesK]; omega)
  have hsx0 := close_cell V K J c (kSx 0) 16 (by intro r hr; simp [dutiesK]; omega)
  have hsx1 := close_cell V K J c (kSx 1) 15 (by intro r hr; simp [dutiesK]; omega)
  have hsa0 := close_cell V K J c (kSa 0) 16 (by intro r hr; simp [dutiesK]; omega)
  have hsa1 := close_cell V K J c (kSa 1) 16 (by intro r hr; simp [dutiesK]; omega)
  have hra0 := close_cell V K J c (kRa 0) 16 (by intro r hr; simp [dutiesK]; omega)
  have hra1 := close_cell V K J c (kRa 1) 16 (by intro r hr; simp [dutiesK]; omega)
  have hcx := close_credit V K J c kCx 30 (allX (nxt c)) (fun r => rfl) rfl
  have hca := close_credit V K J c kCa 31 (allA (nxt c)) (fun r => rfl) rfl
  rw [zeros_eq]
  unfold endPos
  iintro ⟨#HK, P0, P1, P2, P3, P4, P5, P6, P7, P8, P9, P10⟩
  imod hbar $$ [P0] with Z0
  · isplitr; · iexact HK
    iexact P0
  imod hrx0 $$ [P1] with Z1
  · isplitr; · iexact HK
    iexact P1
  imod hrx1 $$ [P2] with Z2
  · isplitr; · iexact HK
    iexact P2
  imod hsx0 $$ [P3] with Z3
  · isplitr; · iexact HK
    iexact P3
  imod hsx1 $$ [P4] with Z4
  · isplitr; · iexact HK
    iexact P4
  imod hsa0 $$ [P5] with Z5
  · isplitr; · iexact HK
    iexact P5
  imod hsa1 $$ [P6] with Z6
  · isplitr; · iexact HK
    iexact P6
  imod hra0 $$ [P7] with Z7
  · isplitr; · iexact HK
    iexact P7
  imod hra1 $$ [P8] with Z8
  · isplitr; · iexact HK
    iexact P8
  imod hcx $$ [P9] with Z9
  · isplitr; · iexact HK
    iexact P9
  imod hca $$ [P10] with Z10
  · isplitr; · iexact HK
    iexact P10
  imodintro
  isplitl [Z0]; · iexact Z0
  isplitl [Z9]; · iexact Z9
  isplitl [Z10]; · iexact Z10
  isplitl [Z3]; · iexact Z3
  isplitl [Z4]; · iexact Z4
  isplitl [Z1]; · iexact Z1
  isplitl [Z2]; · iexact Z2
  isplitl [Z5]; · iexact Z5
  isplitl [Z6]; · iexact Z6
  isplitl [Z7]; · iexact Z7
  iexact Z8

/-- What a device holds after the last hop, taken apart. -/
theorem inv_end : Inv V c 32 ⊢ iprop(owesE c 0 ∗ (xSlot c 0 ∗ xSlot c 1)
    ∗ (pos c (kRx 0) 15 ∗ pos c (kRx 1) 16 ∗ pos c (kSx 0) 16 ∗ pos c (kSx 1) 15 ∗ pos c (kSa 0) 16 ∗ pos c (kRa 1) 16
      ∗ credSt c kCx 30 (allX (nxt c)) 30 ∗ credSt c kCa 31 (allA (nxt c)) 31)
    ∗ (cred (tallyAt (kcell c (kSa (oth (slotOf 32)))) 0 NA) ∗ pos c (kSa (oth (slotOf 32))) ((32 - 1) / 2))
    ∗ pos c (kRa (slotOf 32)) ((32 - 1) / 2)) := by
  unfold Inv invBuf invPos
  rw [oRest_last, if_neg (by omega : ¬ 32 ≤ 31), opt_pos (by omega : 31 ≤ 32), opt_pos (by omega : 32 ≤ 32), opt_pos (by omega : 1 ≤ 32)]
  iintro ⟨HO, -, ⟨-, -, -, -, X1, X0⟩, ⟨P1, P2, P3, P4, P5, P6, C, P7, P8, P9, P10⟩, -, -⟩
  isplitl [HO]; · iexact HO
  isplitl [X0 X1]
  · isplitl [X0]; · iexact X0
    iexact X1
  isplitl [P1 P2 P3 P4 P5 P8 P9 P10]
  · isplitl [P1]; · iexact P1
    isplitl [P2]; · iexact P2
    isplitl [P3]; · iexact P3
    isplitl [P4]; · iexact P4
    isplitl [P5]; · iexact P5
    isplitl [P8]; · iexact P8
    isplitl [P9]; · iexact P9
    iexact P10
  isplitl [C P6]
  · isplitl [C]; · iexact C
    iexact P6
  iexact P7

/-- The credit of the last accumulator coming home. -/
abbrev homeCred : sProp 𝕄 := cred (tallyAt (kcell c (kRa (slotOf 32))) (16 * (32 - 1) + 9) NA)

/-- What the kernel leaves in its result block. -/
abbrev outOf : Vec F S512x512 .f32 := k0_pay179 (V.a 32 c)

/-- The result block, stored. -/
theorem stored_out (f : Buf (Elt F) ((Memref.whole cc0_stg5_0 : Memref sig .tc .vmem S512x512 .f32).view.loc (c : Thread nD τ))) (w : Vec F S512x512 .f32) :
    (((Memref.whole cc0_stg5_0 : Memref sig .tc .vmem S512x512 .f32).access (Rect.unit (s := S512x512) ![0, 0] S512x512.size inb_S512x512_S512x512_0_0) : View sig .tc _ _ _).loc (c : Thread nD τ) ↦{fullShare}
        (((Memref.whole cc0_stg5_0 : Memref sig .tc .vmem S512x512 .f32).access (Rect.unit (s := S512x512) ![0, 0] S512x512.size inb_S512x512_S512x512_0_0) : View sig .tc _ _ _).write (Elt F) f w Finset.univ) : sProp 𝕄)
      ⊢ stg c cc0_stg5_0 w := by
  have hw := Memref.write_access_unit_zero_univ (Elt F) cc0_stg5_0 hz2 inb_S512x512_S512x512_0_0 f w
  iintro H
  iexists _
  isplitr; swap
  · iexact H
  ipureintro
  exact hw

/-- The epilogue. -/
theorem epilogue_wp (Q : PUnit → sProp 𝕄) (f5 : Buf (Elt F) ((c : Thread nD τ).loc cc0_stg5_0)) :
    iprop(Know V K J ∗ Inv V c 32 ∗ pos c kBar 1 ∗ homeCred c ∗ (((c : Thread nD τ).loc cc0_stg5_0) ↦{fullShare} f5))
      ⊢ iprop(((owesE c 0 ∗ zeros c ∗ bufs c ∗ stg c cc0_stg5_0 (outOf V c)) -∗ Q ⟨⟩)
          -∗ WP c (epilogue (Memref.whole cc0_stg5_0)) Q) := by
  have hend := inv_end V c
  have hclose := close_all V K J c
  have hb := bufs_of_slots (F := F) c
  have haT : opt (1 ≤ 32) (aSlot c (oth (slotOf 32))) ⊢ aSlot (F := F) c 1 :=
    Entails.of_eq (opt_pos (by omega : 1 ≤ 32))
  have haS : aH c (slotOf 32) (V.a 32 c) ⊢ aSlot (F := F) c 0 := aH_slot c 0 _
  unfold epilogue
  simp only [Prog.lift, Prog.bind_op, Prog.bind_ret]
  iintro ⟨#HK, HI, HB, Hh, S5⟩ Hk
  ihave H := hend $$ HI
  icases H with ⟨HO, ⟨X0, X1⟩, ⟨P1, P2, P3, P4, P5, P8, P9, P10⟩, ⟨C, P6⟩, P7⟩
  iapply (p_sentA V K J c (O := 0) 32 (by omega) (Above.zero 0)) $$ [HO C P6]
  · isplitr; · iexact HK
    isplitl [HO]; · iexact HO
    isplitl [C]; · rw [opt_pos (by omega : 1 ≤ 32)]; iexact C
    iexact P6
  iintro ⟨HO, P6, A1⟩
  iapply (p_recvA V K J c (O := 0) 32 (by omega) (fun _ => Above.zero _)) $$ [HO Hh P7]
  · isplitr; · iexact HK
    isplitl [HO]; · iexact HO
    isplitl [Hh]; · rw [opt_pos (by omega : 1 ≤ 32)]; iexact Hh
    isplitl [P7]; · iexact P7
    rw [opt_neg (by omega : ¬ 32 = 0)]; iempintro
  iintro ⟨HO, P7, A0⟩
  iapply (p_loadA c 32 (V.a 32 c)) $$ A0
  iintro A0
  imod hclose $$ [HB P1 P2 P3 P4 P5 P6 P7 P8 P9 P10] with HZ
  · isplitr; · iexact HK
    unfold endPos
    isplitl [HB]; · iexact HB
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    iexact P10
  iapply (wp_load 𝒱₀ (c : Thread nD τ) none Set.univ (m := (Memref.whole cc0_stg5_0 : Memref sig .tc .vmem S512x512 .f32)) (Finset.subset_univ _)) $$ S5
  iintro S5
  iapply (wp_store 𝒱₀ (c : Thread nD τ) none Set.univ (m := (Memref.whole cc0_stg5_0 : Memref sig .tc .vmem S512x512 .f32))
    (r := Rect.unit (s := S512x512) ![0, 0] S512x512.size inb_S512x512_S512x512_0_0) (Mk := Finset.univ) (Finset.subset_univ _)) $$ S5
  iintro S5
  rw [wp_ret]
  imodintro
  ihave S5' := (stored_out c f5 (k0_pay179 (V.a 32 c))) $$ S5
  iapply Hk
  isplitl [HO]; · iexact HO
  isplitl [HZ]; · iexact HZ
  isplitl [X0 X1 A0 A1]
  · iapply hb
    isplitl [X0]; · iexact X0
    isplitl [X1]; · iexact X1
    isplitl [A0]; · iapply haS; iexact A0
    iapply haT; iexact A1
  iexact S5'

end

end Cert.KernelIdeal.Ring

end
-- ==== Proof.Body3.lean ====
/- The body of one device as the obligation of its pipeline. -/
module

public import proofs.«01_k».proof.Proof.Body2
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig ℕ (Elt F) ℕ UU ℕ

section
variable (m : (ℓ : Loc nD τ sig) → Buf (Elt F) ℓ) (ρ : Dev nD → PrngReg)

/-- The blocks of the arguments a memory holds. -/
def ins : Ins F where
  x c := (win0_0.blk (0 : Fin 1)).view.read (Elt F) (m ((c : Thread nD τ).loc main_arg0))
  rw c := (win0_1.blk (0 : Fin 1)).view.read (Elt F) (m ((c : Thread nD τ).loc main_arg1))
  rt c := (win0_2.blk (0 : Fin 1)).view.read (Elt F) (m ((c : Thread nD τ).loc main_arg2))
  ew c := (win0_3.blk (0 : Fin 1)).view.read (Elt F) (m ((c : Thread nD τ).loc main_arg3))
  sw c := (win0_4.blk (0 : Fin 1)).view.read (Elt F) (m ((c : Thread nD τ).loc main_arg4))

/-- What the ring starts with in a memory. -/
abbrev vals : Vals F := (ins m).vals
/-- Device `c`'s result. -/
abbrev outAt (c : Dev nD) : Vec F S512x512 .f32 := outOf (vals m) c

/-- What each device is given of the protocol besides what all know. -/
def startRes (c : Dev nD) : sProp 𝕄 :=
  iprop(cred (tallyAt (kcell c kBar) 1 2) ∗ pos c kBar 0
    ∗ dutyTok ER (kcell (prv c) kBar) 0 1 ∗ dutyTok ER (kcell (nxt c) kBar) 0 0
    ∗ startRead c 0 ∗ startPos c ∗ startHop c ∗ homeCred c)

/-- What device `c` starts from, its buffers apart. -/
def start (c : Dev nD) : sProp 𝕄 :=
  iprop((∃ (K : Dev nD × CK → ℕ) (J : Key → ℕ), Know (vals m) K J) ∗ startRes c)

def Φ₀ (c : Dev nD) : sProp 𝕄 := iprop(start m c ∗ bufs c)
/-- After the kernel every cell is at zero and both buffers are the device's. -/
def Φ₁ (c : Dev nD) : sProp 𝕄 := iprop(zeros c ∗ bufs c)

def dats (_ : Fin 1) (c : Dev nD) : Dat τ (Elt F) ℕ ℕ UU ℕ cfg0 c where
  A w := m ((cfg0.win w).arr.view.loc (c : Thread nD τ))
  after w _ := match w with
    | ⟨0, _⟩ => (ins m).x c
    | ⟨1, _⟩ => (ins m).rw c
    | ⟨2, _⟩ => (ins m).rt c
    | ⟨3, _⟩ => (ins m).ew c
    | ⟨4, _⟩ => (ins m).sw c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- Owning a whole buffer is owning its contents. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = stg c b X := by
  unfold owns; simp only [Memref.view_whole, View.read_whole, View.set_whole]

/-- The body from its start to its end. -/
theorem body_wp (K : Dev nD × CK → ℕ) (J : Key → ℕ) (c : Dev nD) (I : Ins F) (Q : PUnit → sProp 𝕄)
    (f5 : Buf (Elt F) ((c : Thread nD τ).loc cc0_stg5_0)) :
    iprop(Know I.vals K J ∗ startRes c ∗ bufs c ∗ owesE c (O₀ c) ∗ stgs I c ∗ (((c : Thread nD τ).loc cc0_stg5_0) ↦{fullShare} f5))
      ⊢ iprop(((owesE c 0 ∗ zeros c ∗ bufs c ∗ stgs I c ∗ stg c cc0_stg5_0 (outOf I.vals c)) -∗ Q ⟨⟩)
          -∗ WP c (body (Memref.whole cc0_stg0_0) (Memref.whole cc0_stg1_0) (Memref.whole cc0_stg2_0) (Memref.whole cc0_stg3_0)
              (Memref.whole cc0_stg4_0) (Memref.whole cc0_stg5_0)) Q) := by
  have hs := slots_of_bufs (F := F) c
  unfold body startRes
  simp only [Prog.lift, Prog.bind_op, Prog.bind_ret, wp_deviceId]
  iintro ⟨#HK, ⟨HcB, HpB, Ht1, Ht0, HR, HP, HH, Hh⟩, Hbf, HO, HS, S5⟩ Hk
  ihave Hsl := hs $$ Hbf
  iapply (prologue_wp I K J c) $$ [HO HcB HpB Ht1 Ht0 HR HP HH Hsl HS]
  · isplitr; · iexact HK
    isplitr [HS]
    · unfold entry
      isplitl [HO]; · iexact HO
      isplitl [HcB]; · iexact HcB
      isplitl [HpB]; · iexact HpB
      isplitl [Ht1]; · iexact Ht1
      isplitl [Ht0]; · iexact Ht0
      isplitl [HR]; · iexact HR
      isplitl [Hsl]; · iexact Hsl
      isplitl [HP] <;> iassumption
    iexact HS
  iintro ⟨HI, HpB, HS⟩
  iapply (hops_wp I.vals K J c (epilogue (Memref.whole cc0_stg5_0)) 32 0 rfl) $$ [HI]
  · isplitr; · iexact HK
    iexact HI
  iintro HI
  iapply (epilogue_wp I.vals K J c _ f5) $$ [HI HpB Hh S5]
  · isplitr; · iexact HK
    isplitl [HI]; · iexact HI
    isplitl [HpB]; · iexact HpB
    isplitl [Hh] <;> iassumption
  iintro ⟨HO, HZ, Hbf, S5⟩
  iapply Hk
  isplitl [HO]; · iexact HO
  isplitl [HZ]; · iexact HZ
  isplitl [Hbf]; · iexact Hbf
  isplitl [HS] <;> iassumption

set_option maxRecDepth 100000 in
def bodyPre (c : Dev nD) : sProp 𝕄 :=
  iprop(Φ₀ m c ∗ (dats m 0 c).owesAt 0 t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ c ∗ (dats m 0 c).owesAt 0 t0_0.succ ∗ stg c cc0_stg0_0 ((ins m).x c) ∗ stg c cc0_stg1_0 ((ins m).rw c)
    ∗ stg c cc0_stg2_0 ((ins m).rt c) ∗ stg c cc0_stg3_0 ((ins m).ew c) ∗ stg c cc0_stg4_0 ((ins m).sw c) ∗ stg c cc0_stg5_0 (outAt m c))

set_option maxRecDepth 100000 in
/-- The body, from what the pipeline hands it to what it hands back. -/
theorem sound_body (c : Dev nD) : bodyPre m c ⊢ WP c (body (F := F) (Memref.whole cc0_stg0_0) (Memref.whole cc0_stg1_0) (Memref.whole cc0_stg2_0) (Memref.whole cc0_stg3_0)
              (Memref.whole cc0_stg4_0) (Memref.whole cc0_stg5_0)) (fun _ => bodyPost m c) := by
  have h0 : ∀ d, (dats m 0 c).before (0 : Fin 6) t0_0 d = (ins m).x c := fun d => by unfold Dat.before; rw [if_pos (fetch0_0 t0_0)]; rfl
  have h1 : ∀ d, (dats m 0 c).before (1 : Fin 6) t0_0 d = (ins m).rw c := fun d => by unfold Dat.before; rw [if_pos (fetch0_1 t0_0)]; rfl
  have h2 : ∀ d, (dats m 0 c).before (2 : Fin 6) t0_0 d = (ins m).rt c := fun d => by unfold Dat.before; rw [if_pos (fetch0_2 t0_0)]; rfl
  have h3 : ∀ d, (dats m 0 c).before (3 : Fin 6) t0_0 d = (ins m).ew c := fun d => by unfold Dat.before; rw [if_pos (fetch0_3 t0_0)]; rfl
  have h4 : ∀ d, (dats m 0 c).before (4 : Fin 6) t0_0 d = (ins m).sw c := fun d => by unfold Dat.before; rw [if_pos (fetch0_4 t0_0)]; rfl
  unfold bodyPre Φ₀ start
  simp only [h0, h1, h2, h3, h4]
  unfold Dat.owesAt Pipeline.owesWithin
  rw [show (dats m 0 c).owed t0_0.castSucc = O₀ c from rfl]
  iintro ⟨⟨⟨⟨%K, %J, #HK⟩, Hs⟩, Hbf⟩, ⟨%W, %hW, HO⟩, ⟨%d0, S0⟩, ⟨%d1, S1⟩, ⟨%d2, S2⟩, ⟨%d3, S3⟩, ⟨%d4, S4⟩, ⟨%d5, %f5, %h5, S5⟩⟩
  iapply (body_wp K J c (ins m) _ f5) $$ [Hs Hbf HO S0 S1 S2 S3 S4 S5]
  · isplitr; · iexact HK
    isplitl [Hs]; · iexact Hs
    isplitl [Hbf]; · iexact Hbf
    isplitl [HO]; · unfold owesE; iexists W; iexact HO
    isplitr [S5]
    · unfold stgs
      isplitl [S0]; · iexact S0
      isplitl [S1]; · iexact S1
      isplitl [S2]; · iexact S2
      isplitl [S3]; · iexact S3
      iexact S4
    iexact S5
  unfold bodyPost Φ₁ stgs owesE Dat.owesAt Pipeline.owesWithin
  rw [show (dats m 0 c).owed t0_0.succ = 0 from rfl]
  iintro ⟨⟨%W', HO⟩, HZ, Hbf, ⟨S0, S1, S2, S3, S4⟩, S5⟩
  isplitl [HZ Hbf]
  · isplitl [HZ] <;> iassumption
  isplitl [HO]
  · iexists W'
    isplitr; · ipureintro; exact fun _ _ => Or.inl trivial
    iexact HO
  isplitl [S0]; · iexact S0
  isplitl [S1]; · iexact S1
  isplitl [S2]; · iexact S2
  isplitl [S3]; · iexact S3
  isplitl [S4]; · iexact S4
  iexact S5

/-- The printed body on the staging buffers. -/
theorem printed_body : cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7
    = body (Memref.whole cc0_stg0_0) (Memref.whole cc0_stg1_0) (Memref.whole cc0_stg2_0) (Memref.whole cc0_stg3_0)
        (Memref.whole cc0_stg4_0) (Memref.whole cc0_stg5_0) := by
  rw [cc0_body_eq_skeleton]
  exact body_eq _ _ _ _ _ _ _ _ _ _ _ _

set_option maxRecDepth 100000 in
/-- The pipeline's obligation for the body on device `c`. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  show bodyPre m c ⊢ WP c
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m c)
  rw [printed_body]
  exact sound_body m c

end

end Cert.KernelIdeal.Ring

end
-- ==== Proof.Launch1.lean ====
/- The credit the launch deals each device. -/
module

public import proofs.«01_k».proof.Proof.Body3

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig ℕ (Elt F) ℕ UU ℕ

/-! ## Families over the hops -/

omit [FloatOps F] in
/-- A family moved up by one: its last member is left over. -/
theorem shift_range (Φ Ψ : ℕ → sProp 𝕄) (h0 : iprop(emp) ⊢ Ψ 0) :
    ∀ n, (∀ h, h < n → Φ h ⊢ Ψ (h + 1)) → bigSep (Finset.range (n + 1)) Φ ⊢ iprop(bigSep (Finset.range (n + 1)) Ψ ∗ Φ n)
  | 0, _ => by
    rw [bigSep_range_succ, bigSep_range_succ, Finset.range_zero, bigSep_empty, bigSep_empty]
    iintro ⟨H, -⟩
    isplitr
    · isplitr
      · iapply h0; iempintro
      · iempintro
    iexact H
  | n + 1, hs => by
    have ih := shift_range Φ Ψ h0 n (fun h hh => hs h (by omega))
    have hn := hs n (by omega)
    rw [bigSep_range_succ (n + 1) Φ, bigSep_range_succ (n + 1) Ψ]
    iintro ⟨Hl, H⟩
    ihave H' := ih $$ H
    icases H' with ⟨H, Hn⟩
    isplitr [Hl]
    · isplitl [Hn]
      · iapply hn; iexact Hn
      · iexact H
    iexact Hl

/-! ## The launch credit -/

section
variable (c : Dev nD)

/-- The launch credit of hop `h`'s payments, on the cells they pay. -/
def crX (h : ℕ) : sProp 𝕄 := opt (h ≤ 30) (cred (tallyAt (kcell c (kRx (oth (slotOf h)))) (16 * h + 4) NX))
def crCa (h : ℕ) : sProp 𝕄 := opt (1 ≤ h) (cred (tallyAt (kcell c kCa) (16 * h + 6) 1))
def crA (h : ℕ) : sProp 𝕄 := cred (tallyAt (kcell c (kRa (oth (slotOf h)))) (16 * h + 9) NA)
def crCx (h : ℕ) : sProp 𝕄 := opt (h ≤ 29) (cred (tallyAt (kcell c kCx) (16 * h + 11) 1))

omit [FloatOps F] in
/-- The credit at launch for the token copies, on the cells that they pay. -/
theorem cred_oX (h : ℕ) : (launchCred (fun d => oX d h) c : sProp 𝕄) ⊢ crX c h := by
  unfold oX crX
  by_cases hh : h ≤ 30
  · simp only [if_pos hh]; rw [opt_pos hh]
    exact launchCred_tallyAt (csem (kRx (oth (slotOf h)))) nxt prv nxt_prv prv_nxt _ _ c
  · simp only [if_neg hh]; rw [opt_neg hh, launchCred_zero]
omit [FloatOps F] in
/-- The credit at launch for the words about free accumulator slots. -/
theorem cred_oCa (h : ℕ) : (launchCred (fun d => oCa d h) c : sProp 𝕄) ⊢ crCa c h := by
  unfold oCa crCa
  by_cases hh : 1 ≤ h
  · simp only [if_pos hh]; rw [opt_pos hh]
    exact launchCred_tallyAt (csem kCa) prv nxt prv_nxt nxt_prv _ _ c
  · simp only [if_neg hh]; rw [opt_neg hh, launchCred_zero]
omit [FloatOps F] in
/-- The credit at launch for the accumulator copies. -/
theorem cred_oA (h : ℕ) : (launchCred (fun d => oA d h) c : sProp 𝕄) ⊢ crA c h := by
  unfold oA crA
  exact launchCred_tallyAt (csem (kRa (oth (slotOf h)))) nxt prv nxt_prv prv_nxt _ _ c
omit [FloatOps F] in
/-- The credit at launch for the words about free token slots. -/
theorem cred_oCx (h : ℕ) : (launchCred (fun d => oCx d h) c : sProp 𝕄) ⊢ crCx c h := by
  unfold oCx crCx
  by_cases hh : h ≤ 29
  · simp only [if_pos hh]; rw [opt_pos hh]
    exact launchCred_tallyAt (csem kCx) prv nxt prv_nxt nxt_prv _ _ c
  · simp only [if_neg hh]; rw [opt_neg hh, launchCred_zero]

omit [FloatOps F] in
/-- Each hop's credit. -/
theorem cred_hop (h : ℕ) : (launchCred (fun d => oX d h + oCa d h + oA d h + oCx d h) c : sProp 𝕄)
    ⊢ iprop(crX c h ∗ crCa c h ∗ crA c h ∗ crCx c h) := by
  rw [launchCred_add (fun d => oX d h + oCa d h + oA d h) (fun d => oCx d h), launchCred_add (fun d => oX d h + oCa d h) (fun d => oA d h),
    launchCred_add (fun d => oX d h) (fun d => oCa d h)]
  have h1 := cred_oX (F := F) c h
  have h2 := cred_oCa (F := F) c h
  have h3 := cred_oA (F := F) c h
  have h4 := cred_oCx (F := F) c h
  iintro ⟨⟨⟨H1, H2⟩, H3⟩, H4⟩
  isplitl [H1]; · iapply h1; iexact H1
  isplitl [H2]; · iapply h2; iexact H2
  isplitl [H3]; · iapply h3; iexact H3
  iapply h4; iexact H4

/-- What hop `h` waits with, of each kind. -/
def wX (h : ℕ) : sProp 𝕄 := opt (1 ≤ h) (cred (tallyAt (kcell c (kRx (slotOf h))) (16 * (h - 1) + 4) NX))
def wA (h : ℕ) : sProp 𝕄 := opt (1 ≤ h) (cred (tallyAt (kcell c (kRa (slotOf h))) (16 * (h - 1) + 9) NA))
def wCx (h : ℕ) : sProp 𝕄 := opt (1 ≤ h ∧ h ≤ 30) (cred (tallyAt (kcell c kCx) (16 * (h - 1) + 11) 1))

omit [FloatOps F] in
/-- What one hop is paid of tokens is what the next hop waits with. -/
theorem crX_shift : bigSep (Finset.range 32) (crX (F := F) c) ⊢ bigSep (Finset.range 32) (wX c) := by
  refine (shift_range (crX (F := F) c) (wX c) (Entails.of_eq (opt_neg (by omega)).symm) 31 fun h hh => ?_).trans ?_
  · unfold crX wX
    rw [opt_pos (by omega : 1 ≤ h + 1), slotOf_succ, show h + 1 - 1 = h from rfl, opt_pos (by omega)]
  · iintro ⟨H, -⟩; iexact H
omit [FloatOps F] in
/-- What one hop is paid of accumulators is what the next hop waits with, and the last one is the landing at home. -/
theorem crA_shift : bigSep (Finset.range 32) (crA (F := F) c) ⊢ iprop(bigSep (Finset.range 32) (wA c) ∗ homeCred c) := by
  refine (shift_range (crA (F := F) c) (wA c) (Entails.of_eq (opt_neg (by omega)).symm) 31 fun h hh => ?_).trans ?_
  · unfold crA wA
    rw [opt_pos (by omega : 1 ≤ h + 1), slotOf_succ, show h + 1 - 1 = h from rfl]
  · exact Entails.of_eq rfl
omit [FloatOps F] in
/-- What one hop is paid in words about token slots is what the next hop waits with. -/
theorem crCx_shift : bigSep (Finset.range 32) (crCx (F := F) c) ⊢ bigSep (Finset.range 32) (wCx c) := by
  refine (shift_range (crCx (F := F) c) (wCx c) (Entails.of_eq (opt_neg (by omega)).symm) 31 fun h hh => ?_).trans ?_
  · unfold crCx wCx
    by_cases hk : h ≤ 29
    · rw [opt_pos (by omega : 1 ≤ h + 1 ∧ h + 1 ≤ 30), show h + 1 - 1 = h from rfl, opt_pos hk]
    · rw [opt_neg (by omega : ¬ (1 ≤ h + 1 ∧ h + 1 ≤ 30)), opt_neg hk]
  · iintro ⟨H, -⟩; iexact H

omit [FloatOps F] in
/-- The hops from 0 on are the first 32 numbers. -/
theorem ico_range : Finset.Ico 0 32 = Finset.range 32 := by rw [Finset.range_eq_Ico]

omit [FloatOps F] in
/-- The launch deals each device its barrier's two units, every hop's credit and that of its accumulator come home. -/
theorem creds : (launchCred O₀ c : sProp 𝕄)
    ⊢ iprop(cred (tallyAt (kcell c kBar) 1 2) ∗ bigSep (Finset.Ico 0 32) (fun k => hopCred (F := F) c k) ∗ homeCred c) := by
  have hsum : (launchCred (fun d => oRest d 0) c : sProp 𝕄) ⊢ bigSep (Finset.range 32) (fun h => iprop(crX (F := F) c h ∗ crCa c h ∗ crA c h ∗ crCx c h)) := by
    unfold oRest
    rw [launchCred_sum (Finset.Ico 0 32) (fun h d => oX d h + oCa d h + oA d h + oCx d h) c, ico_range]
    exact bigSep_mono fun h _ => cred_hop c h
  have hsplit : bigSep (Finset.range 32) (fun h => iprop(crX (F := F) c h ∗ crCa c h ∗ crA c h ∗ crCx c h))
      ⊢ iprop(bigSep (Finset.range 32) (fun k => hopCred (F := F) c k) ∗ homeCred c) := by
    rw [bigSep_sep', bigSep_sep', bigSep_sep']
    have h1 := crX_shift (F := F) c
    have h2 := crA_shift (F := F) c
    have h3 := crCx_shift (F := F) c
    have hj : iprop(bigSep (Finset.range 32) (wX (F := F) c) ∗ bigSep (Finset.range 32) (wCx c) ∗ bigSep (Finset.range 32) (wA c) ∗ bigSep (Finset.range 32) (crCa c))
        ⊢ bigSep (Finset.range 32) (fun k => hopCred (F := F) c k) := by
      unfold hopCred
      rw [bigSep_sep', bigSep_sep', bigSep_sep']
      exact Entails.of_eq rfl
    iintro ⟨H1, H2, H3, H4⟩
    ihave H3' := h2 $$ H3
    icases H3' with ⟨H3, Hh⟩
    isplitr [Hh]
    · iapply hj
      isplitl [H1]; · iapply h1; iexact H1
      isplitl [H4]; · iapply h3; iexact H4
      isplitl [H3]; · iexact H3
      iexact H2
    iexact Hh
  have hb1 : (launchCred (fun d => tallyAt (kcell (nxt d) kBar) 1 1) c : sProp 𝕄) ⊢ cred (tallyAt (kcell c kBar) 1 1) :=
    launchCred_tallyAt (csem kBar) nxt prv nxt_prv prv_nxt _ _ c
  have hb2 : (launchCred (fun d => tallyAt (kcell (prv d) kBar) 1 1) c : sProp 𝕄) ⊢ cred (tallyAt (kcell c kBar) 1 1) :=
    launchCred_tallyAt (csem kBar) prv nxt prv_nxt nxt_prv _ _ c
  have hadd : iprop(cred (tallyAt (kcell c kBar) 1 1) ∗ cred (tallyAt (kcell c kBar) 1 1)) ⊢ (cred (tallyAt (kcell c kBar) 1 2) : sProp 𝕄) := by
    exact (cred_add _ _).2.trans (Entails.of_eq (congrArg cred (tallyAt_add _ _ 1 1)))
  rw [ico_range]
  show (launchCred (fun d => (oRest d 0 + tallyAt (kcell (nxt d) kBar) 1 1) + tallyAt (kcell (prv d) kBar) 1 1) c : sProp 𝕄) ⊢ _
  rw [launchCred_add (fun d => oRest d 0 + tallyAt (kcell (nxt d) kBar) 1 1) (fun d => tallyAt (kcell (prv d) kBar) 1 1),
    launchCred_add (fun d => oRest d 0) (fun d => tallyAt (kcell (nxt d) kBar) 1 1)]
  iintro ⟨⟨H, H1⟩, H2⟩
  isplitl [H1 H2]
  · iapply hadd
    isplitl [H1]; · iapply hb1; iexact H1
    iapply hb2; iexact H2
  iapply hsplit
  iapply hsum
  iexact H
end

end Cert.KernelIdeal.Ring

end
-- ==== Proof.Launch2.lean ====
/- What the launch deals each device: its cells, the tokens of the payments it makes, its slots. -/
module

public import proofs.«01_k».proof.Proof.Launch1
public import Idealize.ShloMosaic.Lib.SparseCore.Launch

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig ℕ (Elt F) ℕ UU ℕ

/-! ## The tokens, by the device that pays -/

/-- A payment of device `c` at hop `h`, by its number: the device paid, the kind of cell, the round and the duty. -/
def payOf : Dev nD × ℕ × Fin 8 → Dev nD × CK × ℕ × ℕ
  | (c, h, 0) => (c, kSx (slotOf h), h / 2, 0)
  | (c, h, 1) => (nxt c, kRx (oth (slotOf h)), h / 2, 0)
  | (c, h, 2) => (c, kSa (slotOf h), h / 2, 0)
  | (c, h, 3) => (nxt c, kRa (oth (slotOf h)), h / 2, 0)
  | (c, h, 4) => (prv c, kCa, 0, h)
  | (c, h, 5) => (prv c, kCx, 0, h + 1)
  | (c, h, 6) => (nxt c, kBar, 0, 2 * h)
  | (c, h, 7) => (prv c, kBar, 0, 2 * h + 1)

/-- Who pays what is paid. -/
def payer : Dev nD × CK × ℕ × ℕ → Dev nD × ℕ × Fin 8
  | (c, .inr (0, s), r, _) => (c, 2 * r + s.val, 0)
  | (c, .inr (1, s), r, _) => (prv c, 2 * r + (1 - s.val), 1)
  | (c, .inr (2, s), r, _) => (c, 2 * r + s.val, 2)
  | (c, .inr (3, s), r, _) => (prv c, 2 * r + (1 - s.val), 3)
  | (c, .inl 2, _, d) => (nxt c, d, 4)
  | (c, .inl 1, _, d) => (nxt c, d - 1, 5)
  | (c, .inl 0, _, d) => if d % 2 = 0 then (prv c, d / 2, 6) else (nxt c, d / 2, 7)

/-- The payer of a payment is found again from it. -/
theorem payer_payOf : Function.LeftInverse payer payOf
  | (c, h, 0) => by show (c, 2 * (h / 2) + (slotOf h).val, (0 : Fin 8)) = _; rw [hop_own]
  | (c, h, 1) => by show (prv (nxt c), 2 * (h / 2) + (1 - (oth (slotOf h)).val), (1 : Fin 8)) = _; rw [hop_oth, prv_nxt]
  | (c, h, 2) => by show (c, 2 * (h / 2) + (slotOf h).val, (2 : Fin 8)) = _; rw [hop_own]
  | (c, h, 3) => by show (prv (nxt c), 2 * (h / 2) + (1 - (oth (slotOf h)).val), (3 : Fin 8)) = _; rw [hop_oth, prv_nxt]
  | (c, h, 4) => by show (nxt (prv c), h, (4 : Fin 8)) = _; rw [nxt_prv]
  | (c, h, 5) => by show (nxt (prv c), h + 1 - 1, (5 : Fin 8)) = _; rw [nxt_prv]; rfl
  | (c, h, 6) => by
    show (if 2 * h % 2 = 0 then (prv (nxt c), 2 * h / 2, (6 : Fin 8)) else (nxt (nxt c), 2 * h / 2, 7)) = _
    rw [if_pos (by omega), prv_nxt, show 2 * h / 2 = h by omega]
  | (c, h, 7) => by
    show (if (2 * h + 1) % 2 = 0 then (prv (prv c), (2 * h + 1) / 2, (6 : Fin 8)) else (nxt (prv c), (2 * h + 1) / 2, 7)) = _
    rw [if_neg (by omega), nxt_prv, show (2 * h + 1) / 2 = h by omega]

/-- The token of a payment. -/
def tokOf (x : Dev nD × ℕ × Fin 8) : GSem nD τ sig × ℕ × ℕ := (kcell (payOf x).1 (payOf x).2.1, (payOf x).2.2)
/-- Different payments have different tokens. -/
theorem tokOf_inj : Function.Injective tokOf := fun a b h => by
  unfold tokOf at h
  obtain ⟨h1, h2⟩ := Prod.ext_iff.mp h
  have h3 := kcell_inj (a₁ := ((payOf a).1, (payOf a).2.1)) (a₂ := ((payOf b).1, (payOf b).2.1)) h1
  obtain ⟨h4, h5⟩ := Prod.ext_iff.mp h3
  exact payer_payOf.injective (Prod.ext h4 (Prod.ext h5 h2))

def ringCells : Finset (GSem nD τ sig) := Finset.univ.map ⟨fun ck : Dev nD × CK => kcell ck.1 ck.2, kcell_inj⟩
def ringToks : Finset (GSem nD τ sig × ℕ × ℕ) := (Finset.univ ×ˢ (Finset.range 32 ×ˢ Finset.univ)).map ⟨tokOf, tokOf_inj⟩

def u₀ : UU :=
  (initOf (Pipeline.cells cfgs cellOf_inj) (Pipeline.launchToks cfgs cellOf_inj), (initOf ringCells ringToks, Release.initSlots Finset.univ 16))

section
variable (V : Vals F) (c : Dev nD)

/-- The tokens of device `c`'s payments of hop `h`. -/
def hopDuty (h : ℕ) : sProp 𝕄 :=
  iprop(dutyTok ER (kcell c (kSx (slotOf h))) (h / 2) 0 ∗ dutyTok ER (kcell (nxt c) (kRx (oth (slotOf h)))) (h / 2) 0
    ∗ dutyTok ER (kcell c (kSa (slotOf h))) (h / 2) 0 ∗ dutyTok ER (kcell (nxt c) (kRa (oth (slotOf h)))) (h / 2) 0
    ∗ dutyTok ER (kcell (prv c) kCa) 0 h ∗ dutyTok ER (kcell (prv c) kCx) 0 (h + 1)
    ∗ dutyTok ER (kcell (nxt c) kBar) 0 (2 * h) ∗ dutyTok ER (kcell (prv c) kBar) 0 (2 * h + 1))
/-- The leave to write the next device's slots at hop `h`. -/
def hopWrite (h : ℕ) : sProp 𝕄 :=
  iprop(Release.writeTok ES ((nxt c, 0, oth (slotOf h)) : Key) (h / 2 + 1) ∗ Release.writeTok ES ((nxt c, 1, oth (slotOf h)) : Key) (h / 2 + 1))

/-- What the launch deals device `c` and it keeps: tokens, slots, releases and leaves to write. -/
def kept : sProp 𝕄 :=
  iprop(bigSep (Finset.range 32) (hopDuty (F := F) c) ∗ startRead c 0 ∗ bigSep (Finset.range 32) (hopWrite (F := F) c)
    ∗ (∃ J : Key → ℕ, bigSep Finset.univ (fun k : Key => Release.slotInv ES (J k) k (keySlot (F := F) k))))
/-- What the launch deals device `c`. -/
def G : sProp 𝕄 :=
  iprop((bigSep Finset.univ fun k : CK => roundState ER (Rd V) (kcell c k) 0)
    ∗ (bigSep Finset.univ fun k : CK => pos c k 0) ∗ kept c)
end

omit [FloatOps F] in
/-- A product over eight, written out. -/
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- The tokens of the payments, by the device and the hop that pay. -/
theorem toks_eq : bigSep ringToks (fun x => (dutyTok ER x.1 x.2.1 x.2.2 : sProp 𝕄))
    = bigSep Finset.univ fun c : Dev nD => bigSep (Finset.range 32) (hopDuty (F := F) c) := by
  unfold ringToks
  rw [bigSep_map, SparseCore.bigSep_product]
  refine bigSep_congr fun c _ => ?_
  rw [SparseCore.bigSep_product]
  refine bigSep_congr fun h _ => ?_
  rw [fin8]
  rfl

/-- Two families over the rounds as one over the hops. -/
theorem two_range (Φ : Fin 2 → ℕ → sProp 𝕄) : ∀ n, iprop(bigSep (Finset.range n) (Φ 0) ∗ bigSep (Finset.range n) (Φ 1))
    ⊢ bigSep (Finset.range (2 * n)) (fun h => Φ (oth (slotOf h)) (h / 2))
  | 0 => by
    rw [Nat.mul_zero, Finset.range_zero, bigSep_empty, bigSep_empty, bigSep_empty]
    iintro -; iempintro
  | n + 1 => by
    have ih := two_range Φ n
    have e0 : slotOf (2 * n) = 0 := Fin.ext (show 2 * n % 2 = 0 by omega)
    have e1 : slotOf (2 * n + 1) = 1 := Fin.ext (show (2 * n + 1) % 2 = 1 by omega)
    rw [bigSep_range_succ, bigSep_range_succ, show 2 * (n + 1) = 2 * n + 1 + 1 by omega, bigSep_range_succ, bigSep_range_succ,
      e0, e1, show (2 * n + 1) / 2 = n by omega, show 2 * n / 2 = n by omega]
    iintro ⟨⟨H0, Hs⟩, H1, Ht⟩
    isplitl [H0]; · iexact H0
    isplitl [H1]; · iexact H1
    iapply ih
    isplitl [Hs] <;> iassumption

omit [FloatOps F] in
/-- A product over a device's four slots, written out. -/
theorem keys_eq (Φ : Fin 2 × Fin 2 → sProp 𝕄) : bigSep Finset.univ Φ = iprop(Φ (0, 0) ∗ Φ (0, 1) ∗ Φ (1, 1) ∗ Φ (1, 0)) :=
  bigSep_univ_eq_bigSepL [(0, 0), (0, 1), (1, 1), (1, 0)] (by decide) (by decide) Φ

omit [FloatOps F] in
/-- The readers of the slots, by device. -/
theorem reads_eq : bigSep Finset.univ (fun k : Key => (Release.readerAt ES k 0 : sProp 𝕄)) = bigSep Finset.univ fun c : Dev nD => startRead (F := F) c 0 := by
  rw [bigSep_univ_prod]
  refine bigSep_congr fun c _ => ?_
  rw [keys_eq]; rfl

/-- The writers of the slots, by the device and the hop that write. -/
theorem writes_eq : bigSep (Finset.univ ×ˢ Finset.range 16) (fun x : Key × ℕ => (Release.writeTok ES x.1 (x.2 + 1) : sProp 𝕄))
    ⊢ bigSep Finset.univ fun c : Dev nD => bigSep (Finset.range 32) (hopWrite (F := F) c) := by
  rw [SparseCore.bigSep_product, bigSep_univ_prod, bigSep_univ_equiv ring]
  refine bigSep_mono fun c _ => ?_
  have h0 := two_range (F := F) (fun s t => Release.writeTok ES ((nxt c, 0, s) : Key) (t + 1)) 16
  have h1 := two_range (F := F) (fun s t => Release.writeTok ES ((nxt c, 1, s) : Key) (t + 1)) 16
  rw [keys_eq]
  unfold hopWrite
  rw [bigSep_sep']
  show iprop(bigSep (Finset.range 16) (fun t => Release.writeTok ES ((nxt c, 0, 0) : Key) (t + 1)) ∗ bigSep (Finset.range 16) (fun t => Release.writeTok ES ((nxt c, 0, 1) : Key) (t + 1))
    ∗ bigSep (Finset.range 16) (fun t => Release.writeTok ES ((nxt c, 1, 1) : Key) (t + 1)) ∗ bigSep (Finset.range 16) (fun t => Release.writeTok ES ((nxt c, 1, 0) : Key) (t + 1))) ⊢ _
  iintro ⟨H1, H2, H3, H4⟩
  isplitl [H1 H2]
  · iapply h0
    isplitl [H1]; · iexact H1
    iexact H2
  iapply h1
  isplitl [H4]; · iexact H4
  iexact H3

omit [FloatOps F] in
/-- What holds with something known, of every member of a family. -/
theorem bigSep_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The launch's element, dealt out. -/
theorem fund_ring (V : Vals F) :
    BI.own ((embR : Emb (UB × US) 𝕄) (initOf ringCells ringToks, Release.initSlots Finset.univ 16))
      ⊢ (|={Set.univ}=> bigSep Finset.univ (G V) : sProp 𝕄) := by
  have hX (Φ : GSem nD τ sig → sProp 𝕄) : bigSep ringCells Φ = bigSep Finset.univ fun c : Dev nD => bigSep Finset.univ fun k : CK => Φ (kcell c k) := by
    unfold ringCells; rw [bigSep_map, bigSep_univ_prod]; rfl
  have hpair := own_pair_emb (embR : Emb (UB × US) 𝕄) (initOf ringCells ringToks) (Release.initSlots (Finset.univ : Finset Key) 16)
  have hslots := Release.slots_init (E := ES) (Finset.univ : Finset Key) 16 (keySlot (F := F)) (Es := Set.univ)
  have hfund := Rounds.fund ER (Rd V) ringCells ringToks
  have hst := Entails.of_eq (hX fun g => roundState ER (Rd V) g 0)
  have hpos : iprop(bigSep ringCells (fun g => reached ER g 0) ∗ bigSep ringCells (fun g => atPos ER g 0 ∅ 0))
      ⊢ bigSep Finset.univ fun c : Dev nD => bigSep Finset.univ fun k : CK => pos (F := F) c k 0 := by
    rw [hX, hX]
    unfold pos
    simp only [bigSep_sep']
    exact sep_comm.1
  have htok := Entails.of_eq (toks_eq (F := F))
  have hread := Entails.of_eq (reads_eq (F := F))
  have hwrite := writes_eq (F := F)
  have hJ (J : Key → ℕ) : iprop(bigSep Finset.univ (fun k : Key => Release.slotInv ES (J k) k (keySlot (F := F) k))
      ∗ bigSep Finset.univ fun c : Dev nD => iprop(bigSep (Finset.range 32) (hopDuty (F := F) c) ∗ startRead c 0 ∗ bigSep (Finset.range 32) (hopWrite (F := F) c)))
      ⊢ bigSep Finset.univ (kept (F := F)) := by
    refine bigSep_known fun c _ => ?_
    unfold kept
    iintro ⟨H, H1, H2, H3⟩
    isplitl [H1]; · iexact H1
    isplitl [H2]; · iexact H2
    isplitl [H3]; · iexact H3
    iexists J; iexact H
  have hkept : iprop((bigSep Finset.univ fun c : Dev nD => bigSep (Finset.range 32) (hopDuty (F := F) c))
      ∗ (bigSep Finset.univ fun c : Dev nD => startRead (F := F) c 0) ∗ (bigSep Finset.univ fun c : Dev nD => bigSep (Finset.range 32) (hopWrite (F := F) c)))
      ⊢ bigSep Finset.univ fun c : Dev nD => iprop(bigSep (Finset.range 32) (hopDuty (F := F) c) ∗ startRead c 0 ∗ bigSep (Finset.range 32) (hopWrite (F := F) c)) := by
    rw [bigSep_sep', bigSep_sep']
  unfold G
  rw [bigSep_sep', bigSep_sep']
  iintro Hu
  ihave Hu' := hpair $$ Hu
  icases Hu' with ⟨HX, HS⟩
  imod hfund $$ HX with ⟨Hst, Hr, Hat, Htok⟩
  imod hslots $$ HS with ⟨%J, -, HJ, Hrd, Hw⟩
  imodintro
  isplitl [Hst]; · iapply hst; iexact Hst
  isplitl [Hr Hat]
  · iapply hpos
    isplitl [Hr] <;> iassumption
  iapply (hJ J)
  isplitl [HJ]; · iexact HJ
  iapply hkept
  isplitl [Htok]; · iapply htok; iexact Htok
  isplitl [Hrd]; · iapply hread; iexact Hrd
  iapply hwrite
  iexact Hw

end Cert.KernelIdeal.Ring

end
-- ==== Proof.Launch3.lean ====
/- The launch of the ring on all the devices, and its run. -/
module

public import proofs.«01_k».proof.Proof.Launch2
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig ℕ (Elt F) ℕ UU ℕ

/-! ## The cells at the launch -/

/-- The kernel's own semaphores: the two credit counters and the copies' pairs. -/
def osem : Fin 2 ⊕ (Fin 4 × Fin 2) → SemLoc sig
  | .inl i => csem (.inl i.succ)
  | .inr p => csem (.inr p)
/-- The call's own semaphores are distinct and apart from the pipeline's. -/
theorem ownSemFacts : Pipeline.OwnSemFacts cfg0.spec osem := by decide

omit [FloatOps F] in
/-- The call's own counters at zero, written out. -/
theorem ownSems0_eq (c : Dev nD) : (Pipeline.ownSems0 (Ix := ℕ) (Name := ℕ) (U := UU) (Lvl := ℕ) (Val := Elt F) (τ := τ) osem c : sProp 𝕄)
    = iprop(semVal (kcell c kCx) 0 ∗ semVal (kcell c kCa) 0
    ∗ semVal (kcell c (kSx 0)) 0 ∗ semVal (kcell c (kSx 1)) 0 ∗ semVal (kcell c (kRx 0)) 0 ∗ semVal (kcell c (kRx 1)) 0
    ∗ semVal (kcell c (kSa 0)) 0 ∗ semVal (kcell c (kSa 1)) 0 ∗ semVal (kcell c (kRa 0)) 0 ∗ semVal (kcell c (kRa 1)) 0) := by
  rw [Pipeline.ownSems0_eq_of_list c osem [.inl 0, .inl 1, .inr (0, 0), .inr (0, 1), .inr (1, 0), .inr (1, 1), .inr (2, 0), .inr (2, 1),
    .inr (3, 0), .inr (3, 1)] (by decide) (by decide)]; rfl
omit [FloatOps F] in
/-- The one counter outside the call is the barrier's. -/
theorem unscopedSems0_eq (c : Dev nD) : (unscopedSems0 c : sProp 𝕄) = semVal (kcell c kBar) 0 := by
  unfold unscopedSems0; rw [bigSep_eq_bigSepL_of_eq [SemLoc.reg barS.sem] (by decide) (by decide)]; rfl

omit [FloatOps F] in
/-- All the cells of a device are the kernel's own and the barrier. -/
theorem sems0_eq (c : Dev nD) :
    iprop(Pipeline.ownSems0 (Ix := ℕ) (Name := ℕ) (U := UU) (Lvl := ℕ) (Val := Elt F) (τ := τ) osem c ∗ unscopedSems0 c) = (zeros (F := F) c : sProp 𝕄) := by
  rw [ownSems0_eq, unscopedSems0_eq, zeros_eq]
  exact BI.equiv_iff.mp ⟨BI.sep_comm, BI.sep_comm⟩

/-- A device's counters at zero become the invariants of its cells. -/
theorem core_alloc (V : Vals F) (c : Dev nD) :
    iprop(Pipeline.ownSems0 (Ix := ℕ) (Name := ℕ) (U := UU) (Lvl := ℕ) (Val := Elt F) (τ := τ) osem c ∗ unscopedSems0 c ∗ G V c)
      ⊢ |={Set.univ}=> iprop((bigSep Finset.univ fun k : CK => iprop(∃ κ : ℕ, cellInv ER (Rd V) κ (kcell c k)))
          ∗ (bigSep Finset.univ fun k : CK => pos c k 0) ∗ kept c) := by
  have hz := Entails.of_eq (sems0_eq (F := F) c)
  have hinv : iprop(zeros c ∗ bigSep Finset.univ fun k : CK => roundState ER (Rd V) (kcell c k) 0)
      ⊢ (|={Set.univ}=> bigSep Finset.univ fun k : CK => iprop(∃ κ : ℕ, cellInv ER (Rd V) κ (kcell c k)) : sProp 𝕄) := by
    unfold zeros
    rw [← bigSep_sep']
    exact (bigSep_mono fun k _ => (Rounds.body_intro ER (Rd V) (kcell c k)).trans inv_alloc).trans (bigSep_fupd _ _)
  unfold G
  iintro ⟨Hos, Hus, Hst, Hat, Hk⟩
  ihave Hv := hz $$ [Hos Hus]
  · isplitl [Hos] <;> iassumption
  imod hinv $$ [Hv Hst] with Hinv
  · isplitl [Hv] <;> iassumption
  imodintro
  isplitl [Hinv]; · iexact Hinv
  isplitl [Hat] <;> iassumption

section
variable (m : (ℓ : Loc nD τ sig) → Buf (Elt F) ℓ) (ρ : Dev nD → PrngReg)

/-- What the global step makes of each device's share. -/
def G' (c : Dev nD) : sProp 𝕄 :=
  iprop((∃ (K : Dev nD × CK → ℕ) (J : Key → ℕ), Ctx (vals m) K J) ∗ (bigSep Finset.univ fun k : CK => pos c k 0) ∗ bigSep (Finset.range 32) (hopDuty (F := F) c)
    ∗ startRead c 0 ∗ bigSep (Finset.range 32) (hopWrite (F := F) c))

/-- Every cell's invariant and its first round, known to all. -/
def allCells (V : Vals F) (K : Dev nD × CK → ℕ) : sProp 𝕄 :=
  bigSep Finset.univ (fun ck : Dev nD × CK => iprop(cellInv ER (Rd V) (K ck) (kcell ck.1 ck.2) ∗ reached ER (kcell ck.1 ck.2) 0))
instance allCells_persistent (V : Vals F) (K : Dev nD × CK → ℕ) : BI.Persistent (allCells V K) := by unfold allCells; infer_instance

/-- A device gets from all cells' invariants what it starts with. -/
theorem share_out (K : Dev nD × CK → ℕ) (c : Dev nD) :
    iprop(allCells (vals m) K ∗ (bigSep Finset.univ fun k : CK => pos c k 0) ∗ kept c) ⊢ G' m c := by
  unfold kept G' allCells Ctx
  iintro ⟨HK, HP, H1, H2, H3, ⟨%J, HJ⟩⟩
  isplitl [HK HJ]
  · iexists K
    iexists J
    isplitl [HK]; · iexact HK
    iexact HJ
  isplitl [HP]; · iexact HP
  isplitl [H1]; · iexact H1
  isplitl [H2]; · iexact H2
  iexact H3

omit [FloatOps F] in
/-- Every cell starts at round 0. -/
theorem pos_reached (c : Dev nD) : (bigSep Finset.univ fun k : CK => pos (F := F) c k 0)
    ⊢ iprop((bigSep Finset.univ fun k : CK => reached ER (kcell c k) 0) ∗ bigSep Finset.univ fun k : CK => pos c k 0) := by
  rw [← bigSep_sep']
  refine bigSep_mono fun k _ => ?_
  unfold pos
  show iprop(atPos ER (kcell c k) 0 ∅ 0 ∗ reached ER (kcell c k) 0)
    ⊢ iprop(reached ER (kcell c k) 0 ∗ atPos ER (kcell c k) 0 ∅ 0 ∗ reached ER (kcell c k) 0)
  iintro ⟨Ha, #Hr⟩
  isplitr; · iexact Hr
  isplitl [Ha]; · iexact Ha
  iexact Hr

/-- All devices' cells, shared out to all devices. -/
theorem regroup :
    (bigSep Finset.univ fun c : Dev nD => iprop((bigSep Finset.univ fun k : CK => iprop(∃ κ : ℕ, cellInv ER (Rd (vals m)) κ (kcell c k)))
          ∗ (bigSep Finset.univ fun k : CK => pos c k 0) ∗ kept c) : sProp 𝕄)
      ⊢ bigSep Finset.univ (G' m) := by
  have hI : (bigSep Finset.univ fun c : Dev nD => bigSep Finset.univ fun k : CK => iprop(∃ κ : ℕ, cellInv ER (Rd (vals m)) κ (kcell c k)))
      ⊢ iprop(∃ K : Dev nD × CK → ℕ, bigSep Finset.univ fun ck : Dev nD × CK => cellInv ER (Rd (vals m)) (K ck) (kcell ck.1 ck.2)) := by
    rw [← bigSep_univ_prod (fun ck : Dev nD × CK => iprop(∃ κ : ℕ, cellInv ER (Rd (vals m)) κ (kcell ck.1 ck.2)))]
    exact BI.bigSep_exists_pi Finset.univ (fun (ck : Dev nD × CK) (κ : ℕ) => (cellInv ER (Rd (vals m)) κ (kcell ck.1 ck.2) : sProp 𝕄))
  have hR : (bigSep Finset.univ fun c : Dev nD => bigSep Finset.univ fun k : CK => pos (F := F) c k 0)
      ⊢ iprop((bigSep Finset.univ fun ck : Dev nD × CK => reached ER (kcell ck.1 ck.2) 0) ∗ bigSep Finset.univ fun c : Dev nD => bigSep Finset.univ fun k : CK => pos c k 0) := by
    rw [bigSep_univ_prod (fun ck : Dev nD × CK => (reached ER (kcell ck.1 ck.2) 0 : sProp 𝕄)), ← bigSep_sep']
    exact bigSep_mono fun c _ => pos_reached c
  have hC (K : Dev nD × CK → ℕ) : iprop((bigSep Finset.univ fun ck : Dev nD × CK => cellInv ER (Rd (vals m)) (K ck) (kcell ck.1 ck.2))
      ∗ bigSep Finset.univ fun ck : Dev nD × CK => reached ER (kcell ck.1 ck.2) 0) ⊢ allCells (vals m) K := by
    unfold allCells; rw [bigSep_sep']
  have hout (K : Dev nD × CK → ℕ) : iprop(allCells (vals m) K ∗ (bigSep Finset.univ fun c : Dev nD => bigSep Finset.univ fun k : CK => pos c k 0)
      ∗ bigSep Finset.univ (kept (F := F))) ⊢ bigSep Finset.univ (G' m) := by
    rw [← bigSep_sep']
    exact bigSep_known fun c _ => share_out m K c
  rw [bigSep_sep', bigSep_sep']
  iintro ⟨HI, HP, Hk⟩
  ihave HK := hI $$ HI
  icases HK with ⟨%K, HI⟩
  ihave HP' := hR $$ HP
  icases HP' with ⟨HR, HP⟩
  iapply (hout K)
  isplitl [HI HR]
  · iapply (hC K)
    isplitl [HI] <;> iassumption
  isplitl [HP] <;> iassumption

/-- The global step: all the semaphores of all the devices at once. -/
theorem glob : (bigSep Finset.univ fun c => iprop(Pipeline.ownSems0 (Ix := ℕ) (Name := ℕ) (U := UU) (Lvl := ℕ) (Val := Elt F) (τ := τ) osem c ∗ unscopedSems0 c ∗ G (vals m) c) : sProp 𝕄)
    ⊢ |={Set.univ}=> bigSep Finset.univ (G' m) :=
  ((bigSep_mono fun c _ => core_alloc (vals m) c).trans (bigSep_fupd _ _)).trans (BI.fupd_mono (regroup m))

/-! ## What each device starts from -/

omit [FloatOps F] in
/-- A credit counter nothing of which has been heard. -/
theorem cred_start (c : Dev nD) (k : CK) (M : ℕ) (Φ : ℕ → sProp 𝕄) : pos (F := F) c k 0 ⊢ credSt c k M Φ 0 := by
  unfold pos credSt
  iintro ⟨H, -⟩
  iexists (∅ : Finset ℕ)
  isplitr
  · ipureintro
    refine ⟨Finset.empty_subset _, ?_⟩
    rw [Finset.sdiff_empty, Nat.card_Icc]; omega
  isplitl [H]; · iexact H
  rw [bigSep_empty]; iempintro

omit [FloatOps F] in
/-- A device's positions, by the kind of cell. -/
theorem pos_start (c : Dev nD) : (bigSep Finset.univ fun k : CK => pos (F := F) c k 0) ⊢ iprop(pos c kBar 0 ∗ startPos c) := by
  have hx := cred_start (F := F) c kCx 30 (allX (nxt c))
  have ha := cred_start (F := F) c kCa 31 (allA (nxt c))
  rw [bigSep_univ_eq_bigSepL [kBar, kCx, kCa, kSx 0, kSx 1, kRx 0, kRx 1, kSa 0, kSa 1, kRa 0, kRa 1] (by decide) (by decide)]
  show iprop(pos c kBar 0 ∗ pos c kCx 0 ∗ pos c kCa 0 ∗ pos c (kSx 0) 0 ∗ pos c (kSx 1) 0 ∗ pos c (kRx 0) 0 ∗ pos c (kRx 1) 0
    ∗ pos c (kSa 0) 0 ∗ pos c (kSa 1) 0 ∗ pos c (kRa 0) 0 ∗ pos c (kRa 1) 0) ⊢ _
  unfold startPos
  iintro ⟨HB, HX, HA, S0, S1, R0, R1, A0, A1, B0, B1⟩
  isplitl [HB]; · iexact HB
  isplitl [R0]; · iexact R0
  isplitl [R1]; · iexact R1
  isplitl [S0]; · iexact S0
  isplitl [S1]; · iexact S1
  isplitl [A0]; · iexact A0
  isplitl [A1]; · iexact A1
  isplitl [B0]; · iexact B0
  isplitl [B1]; · iexact B1
  isplitl [HX]; · iapply hx; iexact HX
  iapply ha; iexact HA

omit [FloatOps F] in
/-- What may be needed is had. -/
theorem opt_intro (p : Prop) [Decidable p] (R : sProp 𝕄) : R ⊢ opt p R := by
  unfold opt; split
  · exact Entails.of_eq rfl
  · iintro -; iempintro

/-- The two units a device signals on its neighbours' barriers. -/
def barDuty (c : Dev nD) (h : ℕ) : sProp 𝕄 := iprop(dutyTok ER (kcell (nxt c) kBar) 0 (2 * h) ∗ dutyTok ER (kcell (prv c) kBar) 0 (2 * h + 1))

omit [FloatOps F] in
/-- What a hop pays with, by the kind of payment. -/
theorem hop_tok (c : Dev nD) (h : ℕ) : iprop(hopDuty (F := F) c h ∗ hopWrite c h) ⊢ iprop(barDuty c h ∗ hopTok c h) := by
  have h1 := opt_intro (F := F) (h ≤ 30) (tokX c h)
  have h2 := opt_intro (F := F) (1 ≤ h) (dutyTok ER (kcell (prv c) kCa) 0 h)
  have h3 := opt_intro (F := F) (h ≤ 29) (dutyTok ER (kcell (prv c) kCx) 0 (h + 1))
  unfold hopDuty hopWrite barDuty hopTok
  iintro ⟨⟨D0, D1, D2, D3, D4, D5, D6, D7⟩, W0, W1⟩
  isplitl [D6 D7]
  · isplitl [D6] <;> iassumption
  isplitl [D0 D1 W0]
  · iapply h1
    unfold tokX
    isplitl [D0]; · iexact D0
    isplitl [D1]; · iexact D1
    iexact W0
  isplitl [D2 D3 W1]
  · unfold tokA
    isplitl [D2]; · iexact D2
    isplitl [D3]; · iexact D3
    iexact W1
  isplitl [D4]; · iapply h2; iexact D4
  iapply h3; iexact D5

omit [FloatOps F] in
/-- What all hops pay with, by the kind of payment. -/
theorem hops_tok (c : Dev nD) : iprop(bigSep (Finset.range 32) (hopDuty (F := F) c) ∗ bigSep (Finset.range 32) (hopWrite (F := F) c))
    ⊢ iprop((dutyTok ER (kcell (prv c) kBar) 0 1 ∗ dutyTok ER (kcell (nxt c) kBar) 0 0) ∗ bigSep (Finset.Ico 0 32) (fun k => hopTok (F := F) c k)) := by
  have h0 : bigSep (Finset.range 32) (barDuty (F := F) c) ⊢ barDuty c 0 := bigSep_elim (Finset.mem_range.mpr (by omega))
  have h1 : barDuty (F := F) c 0 ⊢ iprop(dutyTok ER (kcell (prv c) kBar) 0 1 ∗ dutyTok ER (kcell (nxt c) kBar) 0 0) := by
    unfold barDuty; exact sep_comm.1
  rw [← bigSep_sep', ico_range]
  refine (bigSep_mono fun h _ => hop_tok (F := F) c h).trans ?_
  rw [bigSep_sep']
  show iprop(bigSep (Finset.range 32) (barDuty (F := F) c) ∗ bigSep (Finset.range 32) (hopTok c)) ⊢ _
  iintro ⟨H, Ht⟩
  isplitl [H]
  · iapply h1; iapply h0; iexact H
  iexact Ht

/-- A device's start, from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hcr := creds (F := F) c
  have hp := pos_start (F := F) c
  have ht := hops_tok (F := F) c
  have hh : iprop(bigSep (Finset.Ico 0 32) (fun k => hopTok (F := F) c k) ∗ bigSep (Finset.Ico 0 32) (fun k => hopCred (F := F) c k)) ⊢ startHop c := by
    unfold startHop; rw [bigSep_sep']
  unfold start G' startRes Know
  iintro ⟨-, #Hlev, Hcr, -, ⟨%K, %J, #HC⟩, HP, HD, HR, HW⟩
  ihave Hc := hcr $$ Hcr
  icases Hc with ⟨H2, Hh, Hhome⟩
  ihave HP' := hp $$ HP
  icases HP' with ⟨HB, HP⟩
  ihave HT := ht $$ [HD HW]
  · isplitl [HD] <;> iassumption
  icases HT with ⟨⟨T1, T0⟩, HT⟩
  imodintro
  isplitl
  · isplitr
    · iexists K
      iexists J
      isplitr; · iexact HC
      iexact Hlev
    isplitl [H2]; · iexact H2
    isplitl [HB]; · iexact HB
    isplitl [T1]; · iexact T1
    isplitl [T0]; · iexact T0
    isplitl [HR]; · iexact HR
    isplitl [HP]; · iexact HP
    isplitl [HT Hh]
    · iapply hh
      isplitl [HT] <;> iassumption
    iexact Hhome
  · iempintro

/-- What the kernel starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

/-- What the kernel leaves: every counter at zero and both buffers. -/
theorem phi1_exit (c : Dev nD) :
    (dats m 0 c).Φ (Fin.last cfg0.N) ⊢ iprop(unscopedSems0 c ∗ Pipeline.ownSems0 osem c ∗ Pipeline.scopedRest cfg0.spec c) := by
  have hz := Entails.of_eq (sems0_eq (F := F) c).symm
  rw [show (dats m 0 c).Φ (Fin.last cfg0.N) = Φ₁ c from rfl, scopedRest0_eq]
  unfold Φ₁ bufs
  iintro ⟨HZ, Hr⟩
  ihave HZ' := hz $$ HZ
  icases HZ' with ⟨Ho, Hu⟩
  isplitl [Hu]; · iexact Hu
  isplitl [Ho]; · iexact Ho
  iexact Hr

/-- Every wait of the pipeline lies below what is owed. -/
theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait_of_above c _ (by omega) (above_O₀ c)
    · exact mayWait_of_above c _ (by omega) (Above.zero 0)

/-- The kernel has its windows whole. -/
theorem share_eq (c : Dev nD) (w : Fin cfg0.W) : (dats m 0 c).share w = fullShare := by unfold Dat.share; split <;> rfl

/-! ## The run -/

/-- What the run leaves in window `w`'s array of device `c`. -/
def finalA (c : Dev nD) (w : Fin cfg0.W) : Buf (Elt F) ((cfg0.win w).arr.view.loc (c : Thread nD τ)) := (dats m 0 c).arrAt w cfg0.N

/-- Every window's array of every device holds what the run leaves there. -/
def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- The run of the kernel on all the devices, over any float values: it ends, every array holds what was computed, and every
    counter is at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (vals m)) (G' := G' m) (u₀ := u₀)
    (hu₀ := by
      have hs := ownU_pair (nD := nD) (τ := τ) (sig := sig) (Ix := ℕ) (Val := Elt F) (Name := ℕ) (Lvl := ℕ)
        (initOf (Pipeline.cells cfgs cellOf_inj) (Pipeline.launchToks cfgs cellOf_inj)) (initOf ringCells ringToks, Release.initSlots (Finset.univ : Finset Key) 16)
      have hf := fund_ring (F := F) (vals m)
      unfold u₀
      iintro Hu
      ihave H := hs $$ Hu
      icases H with ⟨HP, HX⟩
      imod hf $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      have hread := Pipeline.unscopedSems0_read (X := (unscopedSems0 c : sProp 𝕄)) (c := c) fupd_intro s'
      iintro ⟨Hu, -, HSI⟩
      iapply hread
      isplitl [Hu] <;> iassumption)
    (hQ := fun _ h hs => ⟨fun c w => (h c).1 w, sem_eq_zero hs fun c => (h c).2.2⟩)

/-- An argument's array holds after the run what it held. -/
theorem finalA_in (c : Dev nD) (w : Fin cfg0.W) (hw : (cfg0.win w).isOut = false) :
    finalA m c w = m ((cfg0.win w).arr.view.loc (c : Thread nD τ)) := (dats m 0 c).arrAt_in w hw _
end

end Cert.KernelIdeal.Ring

end
-- ==== Proof.ValOut.lean ====
/- The result array after the launch, and the blocks of the arguments: each window is its whole array. -/
module

public import proofs.«01_k».proof.Proof.Launch3
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.ShloMosaic.Pipeline

variable {F : FTy → Type} [FloatOps F]
variable (m : (ℓ : Loc nD τ sig) → Buf (Elt F) ℓ)

/-- An element of a window's one block sits in the array at its own place. -/
theorem emb0 (w : Fin 6) (t : Fin cfg0.N) (y : ((cfg0.win w).xblock (cfg0.grid.coords t)).Idx) (a : Fin (cfg0.win w).shape.rank) :
    (((cfg0.win w).rect t).emb y a : ℕ) = y a := by
  rw [Window.rect_emb_val_off]
  obtain rfl : t = t0_0 := fin_N0 t
  have : (cfg0.win w).kind.off ((cfg0.win w).index t0_0 a) ((cfg0.win w).size a) = 0 := by
    revert a
    fin_cases w <;> intro a <;> fin_cases a <;> rfl
  omega

/-- The kernel's tokens are the device's whole argument. -/
theorem ins_x (c : Dev nD) : (ins m).x c = m ((c : Thread nD τ).loc main_arg0) := by
  funext y
  exact congrArg (m ((c : Thread nD τ).loc main_arg0)) (funext fun a => Fin.ext (emb0 0 t0_0 y a))
/-- The kernel's router is the device's whole argument. -/
theorem ins_rw (c : Dev nD) : (ins m).rw c = m ((c : Thread nD τ).loc main_arg1) := by
  funext y
  exact congrArg (m ((c : Thread nD τ).loc main_arg1)) (funext fun a => Fin.ext (emb0 1 t0_0 y a))
/-- The kernel's routes are the device's whole argument. -/
theorem ins_rt (c : Dev nD) : (ins m).rt c = m ((c : Thread nD τ).loc main_arg2) := by
  funext y
  exact congrArg (m ((c : Thread nD τ).loc main_arg2)) (funext fun a => Fin.ext (emb0 2 t0_0 y a))
/-- The kernel's experts are the device's whole argument. -/
theorem ins_ew (c : Dev nD) : (ins m).ew c = m ((c : Thread nD τ).loc main_arg3) := by
  funext y
  exact congrArg (m ((c : Thread nD τ).loc main_arg3)) (funext fun a => Fin.ext (emb0 3 t0_0 y a))
/-- The kernel's shared expert is the device's whole argument. -/
theorem ins_sw (c : Dev nD) : (ins m).sw c = m ((c : Thread nD τ).loc main_arg4) := by
  funext y
  exact congrArg (m ((c : Thread nD τ).loc main_arg4)) (funext fun a => Fin.ext (emb0 4 t0_0 y a))

/-- The result array ends holding the device's result. -/
theorem final_out (c : Dev nD) : finalA m c 5 = outAt m c := by
  have hd : ∀ t t' : Fin cfg0.N, (cfg0.win 5).flush t = true → (cfg0.win 5).flush t' = true → t ≠ t' →
      Disjoint ((cfg0.win 5).blk t).view.set ((cfg0.win 5).blk t').view.set :=
    fun t t' _ _ h => absurd ((fin_N0 t).trans (fin_N0 t').symm) h
  have h := Dat.read_blk_arrAt_eq_flushed (dat := dats m 0 c) 5 hd cfg0.N t0_0 (by decide) (by decide)
  have hr : ∀ f : Vec F S512x512 .f32, ((cfg0.win 5).blk t0_0).view.read (Elt F) f = f := fun f =>
    funext fun y => congrArg f (funext fun a => Fin.ext (emb0 5 t0_0 y a))
  exact (hr _).symm.trans h

end Cert.KernelIdeal.Ring

end
-- ==== Proof.Soft.lean ====
/- The router's softmax on the extended reals: of finite scores it is a real number at least zero, over whose products a sum
   may be spread. -/
module

public import Idealize.ShloMosaic.PureOps.Ideal.Laws
public import Idealize.ShloMosaic.Lib.Pointwise

@[expose] public section

noncomputable section

namespace Cert.Moe

open Idealize.ShloMosaic

/-- The greatest of the scores, found from minus infinity on. -/
def top (s : Fin 128 → EReal) : EReal := Finset.univ.fold max (Ideal.ofBits .f32 0xFF800000#32) s

/-- The softmax of the scores `s` at expert `e`. -/
def soft (s : Fin 128 → EReal) (e : Fin 128) : EReal :=
  Ideal.div (Ideal.exp (s e - top s)) (∑ e', Ideal.exp (s e' - top s))

/-- Finite: neither infinity. -/
def Fine (s : Fin 128 → EReal) : Prop := ∀ e, ∃ t : ℝ, s e = (t : EReal)

/-- The word of minus infinity denotes it. -/
theorem neg_inf : Ideal.ofBits .f32 0xFF800000#32 = (⊥ : EReal) := by
  unfold Ideal.ofBits; unfold Ideal.ieee; simp

/-- The word of plus infinity denotes it. -/
theorem pos_inf : Ideal.ofBits .f32 0x7F800000#32 = (⊤ : EReal) := by
  unfold Ideal.ofBits; unfold Ideal.ieee; simp

/-- The greatest of finite scores is one of them. -/
theorem top_mem (s : Fin 128 → EReal) : ∃ e, top s = s e := by
  obtain ⟨e, _, h⟩ := Finset.exists_mem_eq_sup Finset.univ ⟨(0 : Fin 128), Finset.mem_univ _⟩ s
  exact ⟨e, (congrArg (fun b => Finset.univ.fold max b s) neg_inf).trans h⟩

/-- The softmax of finite scores is a real number at least zero. -/
theorem soft_real (s : Fin 128 → EReal) (hs : Fine s) (e : Fin 128) : ∃ p : ℝ, 0 ≤ p ∧ soft s e = (p : EReal) := by
  obtain ⟨e₀, h₀⟩ := top_mem s
  choose t ht using hs
  have hexp : ∀ e, Ideal.exp (s e - top s) = ((Real.exp (t e - t e₀) : ℝ) : EReal) := fun e => by
    rw [h₀, ht e, ht e₀, ← EReal.coe_sub]; rfl
  have hsum : (∑ e', Ideal.exp (s e' - top s)) = ((∑ e', Real.exp (t e' - t e₀) : ℝ) : EReal) := by
    rw [Finset.sum_congr rfl fun e' _ => hexp e']
    exact (map_sum (⟨⟨Real.toEReal, rfl⟩, EReal.coe_add⟩ : ℝ →+ EReal) _ _).symm
  have hpos : 0 < ∑ e', Real.exp (t e' - t e₀) := Finset.sum_pos (fun _ _ => Real.exp_pos _) ⟨0, Finset.mem_univ _⟩
  refine ⟨Real.exp (t e - t e₀) * (∑ e', Real.exp (t e' - t e₀))⁻¹, mul_nonneg (Real.exp_pos _).le (inv_nonneg.2 hpos.le), ?_⟩
  unfold soft
  rw [hexp, hsum]
  unfold Ideal.div
  rw [if_neg (by exact_mod_cast hpos.ne'), EReal.coe_mul, EReal.coe_inv]

/-- A real number at least zero times a sum is the sum of its products. -/
theorem mul_sum_of_real {ι : Type} (p : ℝ) (hp : 0 ≤ p) (A : Finset ι) (f : ι → EReal) :
    (p : EReal) * ∑ k ∈ A, f k = ∑ k ∈ A, (p : EReal) * f k := by
  classical
  induction A using Finset.induction_on with
  | empty => simp
  | insert k A hk ih =>
    rw [Finset.sum_insert hk, Finset.sum_insert hk, ← ih]
    exact EReal.left_distrib_of_nonneg_of_ne_top (by exact_mod_cast hp) (EReal.coe_ne_top _) _ _

/-- The probability that the router gives the expert that the word `r` names: nothing when it names none. -/
def prob (s : Fin 128 → EReal) (r : BitVec 32) : EReal :=
  ∑ e : Fin 128, Scalar.select (IntOp.cmpi .eq (BitVec.ofNat 32 e.val) r) (soft s e) 0

/-- Different experts have different words. -/
theorem ofNat_inj (a b : Fin 128) : BitVec.ofNat 32 a.val = BitVec.ofNat 32 b.val ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- Of a word that names expert `e` it is the softmax at `e`. -/
theorem prob_of (s : Fin 128 → EReal) (e : Fin 128) : prob s (BitVec.ofNat 32 e.val) = soft s e := by
  unfold prob
  rw [Finset.sum_eq_single e]
  · simp [IntOp.cmpi, Scalar.select]
  · intro b _ hb
    have : ¬ BitVec.ofNat 32 b.val = BitVec.ofNat 32 e.val := fun h => hb ((ofNat_inj _ _).1 h)
    rw [IntOp.cmpi, Scalar.select, beq_eq_false_iff_ne.2 this]; rfl
  · intro h; exact absurd (Finset.mem_univ _) h

/-- What token row `x` with scores `s` and route word `r` gets from the experts `W`: the probability of its expert times its
    product with that expert's column; nothing when the word names none. -/
def routed (x : Fin 256 → EReal) (s : Fin 128 → EReal) (r : BitVec 32) (W : Fin 128 → Fin 256 → EReal) : EReal :=
  ∑ e : Fin 128, ∑ k : Fin 256, (if r = BitVec.ofNat 32 e.val then x k * prob s r else 0) * W e k

/-- Of a word that names expert `e`. -/
theorem routed_of (x : Fin 256 → EReal) (s : Fin 128 → EReal) (hs : Fine s) (e : Fin 128) (W : Fin 128 → Fin 256 → EReal) :
    routed x s (BitVec.ofNat 32 e.val) W = soft s e * ∑ k, x k * W e k := by
  unfold routed
  rw [Finset.sum_eq_single e]
  · obtain ⟨p, hp, h⟩ := soft_real s hs e
    rw [prob_of, h, mul_sum_of_real p hp]
    refine Finset.sum_congr rfl fun k _ => ?_
    rw [if_pos rfl, mul_comm (x k), mul_assoc]
  · intro b _ hb
    refine Finset.sum_eq_zero fun k _ => ?_
    rw [if_neg (fun h => hb ((ofNat_inj _ _).1 h).symm), zero_mul]
  · intro h; exact absurd (Finset.mem_univ _) h

/-- Of a word that names none. -/
theorem routed_none (x : Fin 256 → EReal) (s : Fin 128 → EReal) (r : BitVec 32) (hr : ¬ ∃ e : Fin 128, r = BitVec.ofNat 32 e.val)
    (W : Fin 128 → Fin 256 → EReal) : routed x s r W = 0 := by
  unfold routed
  refine Finset.sum_eq_zero fun e _ => Finset.sum_eq_zero fun k _ => ?_
  rw [if_neg (fun h => hr ⟨e, h⟩), zero_mul]

end Cert.Moe

end
-- ==== Proof.ValK.lean ====
/- What the two rings compute, read at an element of the result: a token's product with the shared expert, plus what the
   routed experts of all 32 devices give it. -/
module

public import proofs.«01_k».proof.Proof.Body2
public import proofs.«01_k».proof.Proof.Soft

@[expose] public section

set_option maxRecDepth 16384

noncomputable section

namespace Cert.KernelIdeal.Ring

open Cert.KernelIdeal Cert.KernelIdeal.Gen Idealize.ShloMosaic Cert.Moe

/-- The router's scores of token `i`. -/
def scores {n : ℕ} (x : Vec Ideal ⟨2, ![n, 256]⟩ .f32) (rw : Vec Ideal S256x128 .f32) (i : Fin n) (e : Fin 128) : EReal :=
  ∑ k : Fin 256, x (ix2 i k) * rw (ix2 k e)

/-- The weighted tokens at the start. -/
theorem w0_at (x : Vec Ideal S512x256 .f32) (rw : Vec Ideal S256x128 .f32) (rt : Vec Ideal S512x1 .i32) (i : Fin 512)
    (k : Fin 256) :
    k0_pay4 (k0_pay1 x) (k0_pay2 x rw) (k0_pay3 rt) (ix3 0 i k)
      = x (ix2 i k) * prob (scores x rw i) (rt (ix2 i 0)) := by
  pointwise [k0_pay4, k0_pay1, k0_pay2, k0_pay3]
  rfl

/-- The routes at the start. -/
theorem r0_at (rt : Vec Ideal S512x1 .i32) (i : Fin 512) :
    k0_pay5 (F := Ideal) rt (ix3 0 i 0) = (((rt (ix2 i 0)).toInt : ℝ) : EReal) := by
  pointwise [k0_pay5]
  rfl

/-- The accumulator at the start. -/
theorem a0_at (x : Vec Ideal S512x256 .f32) (sw : Vec Ideal S256x512 .f32) (i j : Fin 512) :
    k0_pay6 (k0_pay1 x) sw (ix3 0 i j) = ∑ k, x (ix2 i k) * sw (ix2 k j) := by
  pointwise [k0_pay6, k0_pay1]

/-- Row `256 q + k` of the experts' matrices stacked on one another. -/
abbrev stk (q : Fin 4) (k : Fin 256) : Fin 1024 := ⟨k.val + 256 * q.val, by omega⟩

/-- It is row `k` of expert `q`. -/
theorem ew_at (ew : Vec Ideal S4x256x512 .f32) (q : Fin 4) (k : Fin 256) (j : Fin 512) :
    k0_pay7 ew (ix2 (stk q k) j) = ew (ix3 q k j) := by
  pointwise [k0_pay7]
  congr 1
  have h1 : (k.val + 256 * q.val) / 256 = q.val := by omega
  have h2 : (k.val + 256 * q.val) % 256 = k.val := by omega
  simp only [h1, h2]

/-- The number of device `d`'s expert `q`, as the kernel computes it. -/
theorem base_add (d : Dev nD) : ∀ q : Fin 4, Scalar.addi (baseOf d) (BitVec.ofNat 32 q.val) = BitVec.ofNat 32 (q.val + 4 * d.val) := by
  revert d; decide

/-- A sum over the stacked rows is a sum over the experts and their rows. -/
theorem sum_stk (f : Fin 1024 → EReal) : ∑ t, f t = ∑ q : Fin 4, ∑ k : Fin 256, f (stk q k) := by
  rw [← Fintype.sum_prod_type' (fun q k => f (stk q k))]
  exact (Fintype.sum_equiv (finProdFinEquiv (m := 4) (n := 256)) _ f fun _ => rfl).symm

/-- What device `d` adds at a hop. -/
def gain (ew : FVec Ideal S1024x512 .bf16) (d : Dev nD) (xb : Vec Ideal S1x512x256 .bf16) (rt : Vec Ideal S1x512x1 .bf16)
    (i j : Fin 512) : EReal :=
  ∑ q : Fin 4, ∑ k : Fin 256,
    (if rt (ix3 0 i 0) = ((((BitVec.ofNat 32 (q.val + 4 * d.val)).toInt : ℝ)) : EReal) then xb (ix3 0 i k) else 0) * ew (ix2 (stk q k) j)

/-- A hop adds what the device gives to the accumulator. -/
theorem upd_at (ew : FVec Ideal S1024x512 .bf16) (d : Dev nD) (xb : Vec Ideal S1x512x256 .bf16) (rt : Vec Ideal S1x512x1 .bf16)
    (acc : Vec Ideal S1x512x512 .bf16) (i j : Fin 512) :
    upd ew (baseOf d) xb rt acc (ix3 0 i j) = acc (ix3 0 i j) + gain ew d xb rt i j := by
  have h0 : Scalar.addi (baseOf d) 0#32 = _ := base_add d 0
  have h1 : Scalar.addi (baseOf d) 1#32 = _ := base_add d 1
  have h2 : Scalar.addi (baseOf d) 2#32 = _ := base_add d 2
  have h3 : Scalar.addi (baseOf d) 3#32 = _ := base_add d 3
  pointwise [upd, k0_pay20, k0_pay21]
  rw [h0, h1, h2, h3, sum_stk]
  unfold gain
  refine congrArg _ (Finset.sum_congr rfl fun q _ => Finset.sum_congr rfl fun k _ => ?_)
  congr 1
  have hk := k.isLt
  fin_cases q
  · simp
  · simp
  · simp
  · simp
    rw [dif_neg (by omega), dif_neg (by omega)]

/-- The device `t` steps on. -/
def go : ℕ → Dev nD → Dev nD
  | 0, b => b
  | t + 1, b => nxt (go t b)

/-- The number of the device `t` steps on. -/
theorem go_val (t : ℕ) (b : Dev nD) : (go t b).val = (b.val + t) % 32 := by
  induction t with
  | zero => exact (Nat.mod_eq_of_lt b.isLt).symm
  | succ t ih =>
    show ((go t b).val + 1) % 32 = _
    rw [ih]; omega

/-- 32 steps lead back. -/
theorem go_32 (b : Dev nD) : go 32 b = b := Fin.ext (by rw [go_val]; have : b.val < 32 := b.isLt; omega)

/-- 32 steps pass every device. -/
theorem go_bij (b : Dev nD) : Function.Bijective fun t : Fin 32 => go t.val b := by
  refine Finite.injective_iff_bijective.1 fun t t' h => Fin.ext ?_
  have := congrArg Fin.val h
  simp only [go_val] at this
  have := t.isLt; have := t'.isLt; have : b.val < 32 := b.isLt
  omega

variable (V : Vals Ideal)

/-- The tokens of block `b` after `t` hops are those at the start. -/
theorem w_go (t : ℕ) (b : Dev nD) : V.w t (go t b) = V.w0 b := by
  induction t with
  | zero => rfl
  | succ t ih => exact (V.w_nxt t (go t b)).trans ih

/-- The routes of block `b` after `t` hops are those at the start. -/
theorem r_go (t : ℕ) (b : Dev nD) : V.r t (go t b) = V.r0 b := by
  induction t with
  | zero => rfl
  | succ t ih => exact (V.r_nxt t (go t b)).trans ih

/-- The accumulator of block `b` after `t` hops. -/
theorem a_go (t : ℕ) (b : Dev nD) (i j : Fin 512) :
    V.a t (go t b) (ix3 0 i j)
      = V.a0 b (ix3 0 i j) + ∑ u ∈ Finset.range t, gain (V.ew (go u b)) (go u b) (V.w0 b) (V.r0 b) i j := by
  induction t with
  | zero => rw [Finset.range_zero, Finset.sum_empty, add_zero]; rfl
  | succ t ih =>
    have h := congrFun (V.a_nxt t (go t b)) (ix3 0 i j)
    rw [Finset.sum_range_succ, ← add_assoc, ← ih]
    refine h.trans ?_
    show upd (V.ew (go t b)) (baseOf (go t b)) (V.w t (go t b)) (V.r t (go t b)) (V.a t (go t b)) (ix3 0 i j) = _
    rw [upd_at, w_go, r_go]

/-- The accumulator that lands at home. -/
theorem a_home (b : Dev nD) (i j : Fin 512) :
    V.a 32 b (ix3 0 i j) = V.a0 b (ix3 0 i j) + ∑ d : Dev nD, gain (V.ew d) d (V.w0 b) (V.r0 b) i j := by
  have h := a_go V 32 b i j
  rw [go_32] at h
  rw [h, ← Fin.sum_univ_eq_sum_range fun u => gain (V.ew (go u b)) (go u b) (V.w0 b) (V.r0 b) i j]
  exact congrArg _ ((go_bij b).sum_comp fun d => gain (V.ew d) d (V.w0 b) (V.r0 b) i j)

/-- Two words are one when their numbers are, on the extended reals too. -/
theorem num_inj (a b : BitVec 32) : (((a.toInt : ℝ)) : EReal) = ((b.toInt : ℝ) : EReal) ↔ a = b := by
  rw [EReal.coe_eq_coe_iff, Int.cast_inj, BitVec.toInt_inj]

/-- Expert `e`: its device and its place there. -/
abbrev expert (d : Dev nD) (q : Fin 4) : Fin 128 := ⟨q.val + 4 * d.val, by have : d.val < 32 := d.isLt; have := q.isLt; omega⟩

/-- A sum over the devices and their experts is a sum over all experts. -/
theorem sum_experts (f : Fin 128 → EReal) : ∑ d : Dev nD, ∑ q : Fin 4, f (expert d q) = ∑ e, f e := by
  rw [← Fintype.sum_prod_type' (fun d q => f (expert d q))]
  exact Fintype.sum_equiv (finProdFinEquiv (m := 32) (n := 4)) _ f fun _ => rfl

/-- The result at an element, of what a device's arguments are: `W` are all experts' matrices at column `j`. -/
theorem out_at (I : Ins Ideal) (b : Dev nD) (i j : Fin 512) (W : Fin 128 → Fin 256 → EReal)
    (hW : ∀ d q k, I.ew d (ix3 q k j) = W (expert d q) k) :
    outOf I.vals b (ix2 i j)
      = (∑ k, I.x b (ix2 i k) * I.sw b (ix2 k j))
        + routed (fun k => I.x b (ix2 i k)) (scores (I.x b) (I.rw b) i) (I.rt b (ix2 i 0)) W := by
  have ho : outOf I.vals b (ix2 i j) = I.vals.a 32 b (ix3 0 i j) := by
    pointwise [k0_pay179]
  rw [ho, a_home]
  refine congrArg₂ _ (a0_at _ _ i j) ?_
  unfold routed
  rw [← sum_experts]
  refine Finset.sum_congr rfl fun d _ => Finset.sum_congr rfl fun q _ => Finset.sum_congr rfl fun k _ => ?_
  refine congrArg₂ _ ?_ ((ew_at (I.ew d) q k j).trans (hW d q k))
  refine if_congr ?_ (w0_at (I.x b) (I.rw b) (I.rt b) i k) rfl
  show k0_pay5 (F := Ideal) (I.rt b) (ix3 0 i 0) = _ ↔ _
  rw [r0_at]
  exact num_inj _ _

end Cert.KernelIdeal.Ring

end
-- ==== Proof.ValR.lean ====
/- The reference read at an element of its result: a token's product with the shared expert, plus what the routed expert
   gives it. -/
module

public import proofs.«01_k».proof.Proof.Gen.ReferenceIdeal.Run
public import proofs.«01_k».proof.Proof.Soft

@[expose] public section

set_option maxRecDepth 16384

noncomputable section

namespace Cert.ReferenceIdeal.Value

open Cert.ReferenceIdeal Cert.ReferenceIdeal.Gen Idealize.ShloMosaic Idealize.ShloMosaic.TcCoe Cert.Moe

/-- The number of a word that names an expert. -/
theorem num_of (n : ℕ) (hn : n < 2 ^ 31) : (BitVec.ofNat 32 n).toInt.toNat = n := by
  rw [BitVec.toInt_eq_toNat_of_lt (by rw [BitVec.toNat_ofNat]; omega), Int.toNat_natCast, BitVec.toNat_ofNat]
  omega

/-- The probabilities gathered at a token and an expert. -/
theorem gat1 (p : Vec Ideal S16384x128 .f32) (idx : IVec S16384x2 32) (i : Fin 16384) (e : Fin 128)
    (h0 : idx (ix2 i 0) = BitVec.ofNat 32 i.val) (h1 : idx (ix2 i 1) = BitVec.ofNat 32 e.val) :
    Host.gather gather_S16384x128_S16384x2_S16384_n_01_n_n_01_1_11 p idx (ix1 i) = p (ix2 i e) := by
  unfold Host.gather
  congr 1
  funext a
  refine Fin.ext ?_
  show GatherDims.start _ (ix1 i) idx a + GatherDims.batchCoord _ (ix1 i) a + GatherDims.offCoord _ (ix1 i) a = _
  have ha : a ∈ gather_S16384x128_S16384x2_S16384_n_01_n_n_01_1_11.collapsedSliceDims := by revert a; decide
  rw [GatherDims.batchCoord_eq_zero _ _ _ List.not_mem_nil,
    GatherDims.offCoord_eq_zero _ _ _ (fun h => ((GatherDims.mem_sKept _ _).mp h).1 ha)]
  simp only [Nat.add_zero]
  unfold GatherDims.start
  rw [dif_pos (show a ∈ gather_S16384x128_S16384x2_S16384_n_01_n_n_01_1_11.startIndexMap from ha)]
  match a with
  | ⟨0, _⟩ =>
    have hs : gather_S16384x128_S16384x2_S16384_n_01_n_n_01_1_11.siIdx (ix1 i) ⟨0, by decide⟩ = ix2 i 0 := by
      funext b; refine Fin.ext ?_
      match b with
      | ⟨0, _⟩ => rfl
      | ⟨1, _⟩ => rfl
    refine (congrArg (fun u => min (idx u).toInt.toNat 16383) hs).trans ?_
    show min (idx (ix2 i 0)).toInt.toNat 16383 = i.val
    rw [h0, num_of _ (by omega)]; omega
  | ⟨1, _⟩ =>
    have hs : gather_S16384x128_S16384x2_S16384_n_01_n_n_01_1_11.siIdx (ix1 i) ⟨1, by decide⟩ = ix2 i 1 := by
      funext b; refine Fin.ext ?_
      match b with
      | ⟨0, _⟩ => rfl
      | ⟨1, _⟩ => rfl
    refine (congrArg (fun u => min (idx u).toInt.toNat 127) hs).trans ?_
    show min (idx (ix2 i 1)).toInt.toNat 127 = e.val
    rw [h1, num_of _ (by omega)]; omega

/-- The experts' matrices gathered at an expert. -/
theorem gat2 (W : Vec Ideal S128x256x512 .f32) (idx : IVec S16384x1 32) (i : Fin 16384) (k : Fin 256) (j : Fin 512) (e : Fin 128)
    (h0 : idx (ix2 i 0) = BitVec.ofNat 32 e.val) :
    Host.gather gather_S128x256x512_S16384x1_S16384x256x512_12_0_n_n_0_1_1256512 W idx (ix3 i k j) = W (ix3 e k j) := by
  unfold Host.gather
  congr 1
  funext a
  refine Fin.ext ?_
  show GatherDims.start _ (ix3 i k j) idx a + GatherDims.batchCoord _ (ix3 i k j) a + GatherDims.offCoord _ (ix3 i k j) a = _
  rw [GatherDims.batchCoord_eq_zero _ _ _ List.not_mem_nil]
  match a with
  | 0 =>
    rw [GatherDims.offCoord_eq_zero _ _ _ (fun h => ((GatherDims.mem_sKept _ _).mp h).1 (by decide))]
    unfold GatherDims.start
    rw [dif_pos (by decide)]
    have hs : gather_S128x256x512_S16384x1_S16384x256x512_12_0_n_n_0_1_1256512.siIdx (ix3 i k j) ⟨0, by decide⟩ = ix2 i 0 := by
      funext b; refine Fin.ext ?_
      match b with
      | ⟨0, _⟩ => rfl
      | ⟨1, _⟩ => rfl
    refine (congrArg (fun u => min (idx u).toInt.toNat 127) hs).trans ?_
    show min (idx (ix2 i 0)).toInt.toNat 127 = e.val
    rw [h0, num_of _ (by omega)]; omega
  | 1 =>
    unfold GatherDims.start
    rw [dif_neg (by decide)]
    exact Nat.zero_add _
  | 2 =>
    unfold GatherDims.start
    rw [dif_neg (by decide)]
    exact Nat.zero_add _

/-- A word lies from `0` to `n`, as the reference tests it. -/
def inside (r n : BitVec 32) : BitVec 1 := IntOp.andi (IntOp.cmpi .sge r 0#32) (IntOp.cmpi .sle r n)

/-- A number up to `n` lies inside. -/
theorem inside_of (a n : ℕ) (hn : n < 2 ^ 31) (ha : a ≤ n) : inside (BitVec.ofNat 32 a) (BitVec.ofNat 32 n) = 1#1 := by
  have h : ∀ b, b < 2 ^ 31 → (BitVec.ofNat 32 b).toInt = b := fun b hb => by
    rw [BitVec.toInt_eq_toNat_of_lt (by rw [BitVec.toNat_ofNat]; omega), BitVec.toNat_ofNat]; omega
  have h0 : (0#32).sle (BitVec.ofNat 32 a) = true := by
    rw [BitVec.sle_eq_decide, decide_eq_true_iff, h a (by omega)]; exact Int.natCast_nonneg a
  have h1 : (BitVec.ofNat 32 a).sle (BitVec.ofNat 32 n) = true := by
    rw [BitVec.sle_eq_decide, decide_eq_true_iff, h a (by omega), h n hn]; omega
  simp [inside, IntOp.cmpi, IntOp.andi, h0, h1]

/-- A word that names no expert lies outside. -/
theorem outside_of (r : BitVec 32) (hr : ¬ ∃ e : Fin 128, r = BitVec.ofNat 32 e.val) : inside r 127#32 = 0#1 := by
  by_contra hne
  have h1 : inside r 127#32 = 1#1 := (BitVec.eq_zero_or_eq_one _).resolve_left hne
  have hbits : ∀ a b : Bool, BitVec.ofBool a &&& BitVec.ofBool b = 1#1 → a = true ∧ b = true := by decide
  obtain ⟨h0, h2⟩ : (0#32).sle r = true ∧ r.sle 127#32 = true := hbits _ _ h1
  rw [BitVec.sle_eq_decide, decide_eq_true_iff] at h0 h2
  have h3 : (0#32).toInt = 0 := rfl
  have h4 : (127#32).toInt = 127 := rfl
  rw [h3] at h0
  rw [h4] at h2
  refine hr ⟨⟨r.toInt.toNat, by omega⟩, BitVec.eq_of_toInt_eq ?_⟩
  rw [BitVec.toInt_eq_toNat_of_lt (x := BitVec.ofNat 32 _) (by rw [BitVec.toNat_ofNat]; show 2 * (r.toInt.toNat % _) < _; omega),
    BitVec.toNat_ofNat]
  show r.toInt = ((r.toInt.toNat % _ : ℕ) : ℤ)
  omega

/-- A bit and 1. -/
theorem and_one : ∀ b : BitVec 1, IntOp.andi b 1#1 = b := by decide
/-- 1 and a bit. -/
theorem one_and : ∀ b : BitVec 1, IntOp.andi 1#1 b = b := by decide
/-- The conjunction of one bit. -/
theorem fold1 (f : Fin 1 → BitVec 1) : Finset.fold IntOp.andi 1#1 f Finset.univ = f 0 := by
  have : (Finset.univ : Finset (Fin 1)) = {0} := by decide
  rw [this, Finset.fold_singleton]
  exact and_one _
/-- The conjunction of two bits. -/
theorem fold2 (f : Fin 2 → BitVec 1) : Finset.fold IntOp.andi 1#1 f Finset.univ = IntOp.andi (f 0) (f 1) := by
  have : (Finset.univ : Finset (Fin 2)) = insert 0 {1} := by decide
  rw [this, Finset.fold_insert (by decide), Finset.fold_singleton]
  exact congrArg _ (and_one _)

/-- The router's scores of token `i`. -/
def scores (x : Vec Ideal S16384x256 .f32) (rw : Vec Ideal S256x128 .f32) (i : Fin 16384) (e : Fin 128) : EReal :=
  ∑ k : Fin 256, x (ix2 i k) * rw (ix2 k e)

variable (m : (ℓ : Loc nD τ sig) → Buf (Elt Ideal) ℓ) (c : Dev nD)

/-- The reference's result at an element, of what the arguments are. -/
theorem out_at (x : Vec Ideal S16384x256 .f32) (rw : Vec Ideal S256x128 .f32) (rt : Vec Ideal S16384x1 .i32)
    (ew : Vec Ideal S128x256x512 .f32) (sw : Vec Ideal S256x512 .f32)
    (hx : m ((c.tc : Thread nD τ).loc main_arg0) = x) (hrw : m ((c.tc : Thread nD τ).loc main_arg1) = rw)
    (hrt : m ((c.tc : Thread nD τ).loc main_arg2) = rt) (hew : m ((c.tc : Thread nD τ).loc main_arg3) = ew)
    (hsw : m ((c.tc : Thread nD τ).loc main_arg4) = sw) (i : Fin 16384) (j : Fin 512) (hs : Fine (scores x rw i)) :
    res_main_v42 m c (ix2 i j)
      = (∑ k, x (ix2 i k) * sw (ix2 k j))
        + routed (fun k => x (ix2 i k)) (scores x rw i) (rt (ix2 i 0)) (fun e k => ew (ix3 e k j)) := by
  generalize h : res_main_v42 m c = R
  delta res_main_v42 at h
  rw [hx, hrw, hrt, hew, hsw] at h
  subst h
  pointwise
  have hb : ∀ r : BitVec 32, Finset.fold IntOp.andi 1#1 (fun t : Fin 2 =>
      IntOp.andi (IntOp.cmpi .sge (if h : t.val < 1 then BitVec.ofNat 32 i.val else r) 0#32)
        (IntOp.cmpi .sle (if h : t.val < 1 then BitVec.ofNat 32 i.val else r) (lit0 (S2.rowMajor (ix1 t))))) Finset.univ
      = inside r 127#32 := fun r => by
    rw [fold2]
    show IntOp.andi (inside (BitVec.ofNat 32 i.val) (BitVec.ofNat 32 16383)) (inside r 127#32) = _
    rw [inside_of _ _ (by decide) (by omega)]
    exact one_and _
  rw [hb]
  refine congrArg _ ?_
  by_cases he : ∃ e : Fin 128, rt (ix2 i 0) = BitVec.ofNat 32 e.val
  · obtain ⟨e, he⟩ := he
    have hin : inside (BitVec.ofNat 32 e.val) 127#32 = 1#1 := inside_of e.val 127 (by decide) (by omega)
    rw [he, hin, routed_of _ _ hs]
    refine congrArg₂ (· * ·) ?_ (Finset.sum_congr rfl fun k _ => ?_)
    · rw [gat1 _ _ i e (by pointwise) (by pointwise; exact he)]
      pointwise
      rfl
    · rw [fold1]
      show Scalar.select (inside (rt (ix2 i 0)) 127#32) _ 0 = _
      rw [he, hin, gat2 _ _ i k j e (by pointwise; exact he)]
      rfl
  · rw [outside_of _ he, routed_none _ _ _ he]
    rfl

end Cert.ReferenceIdeal.Value

end
-- ==== Proof.ValEq.lean ====
/- The kernel's result is the reference's, cut into the devices' blocks, when the router's scores are finite. -/
module

public import proofs.«01_k».proof.Defs
public import proofs.«01_k».proof.Proof.ValOut
public import proofs.«01_k».proof.Proof.ValK
public import proofs.«01_k».proof.Proof.ValR
public import Idealize.ShloMosaic.Lib.Layout

@[expose] public section

set_option maxRecDepth 16384

noncomputable section

namespace Cert.Moe

open Idealize.ShloMosaic Idealize.ShloMosaic.TcCoe

/-- The side conditions of the precondition, at a device's shapes. -/
theorem pre_facts : Cert.Pre_finite_scores_KernelIdeal.Facts := ⟨by decide, by decide⟩
/-- The same at the whole arrays' shapes. -/
theorem pre_facts_whole : Cert.Pre_finite_scores_ReferenceIdeal.Facts := ⟨by decide, by decide⟩

/-- The precondition says that a device's scores are finite. -/
theorem fine_of (x : Vec Ideal ⟨2, ![512, 256]⟩ .f32) (rw : Vec Ideal ⟨2, ![256, 128]⟩ .f32) (rt : Vec Ideal ⟨2, ![512, 1]⟩ .i32)
    (ew : Vec Ideal ⟨3, ![4, 256, 512]⟩ .f32) (sw : Vec Ideal ⟨2, ![256, 512]⟩ .f32)
    (h : @Cert.Pre_finite_scores_KernelIdeal.fn pre_facts Ideal _ x rw rt ew sw = fun _ => 1#1) (i : Fin 512) :
    Fine (Cert.KernelIdeal.Ring.scores x rw i) := fun e => by
  have he := congrFun h (ix2 i e)
  revert he
  unfold Cert.Pre_finite_scores_KernelIdeal.fn
  pointwise
  intro hb
  rw [pos_inf] at hb
  have hlt : max (Cert.KernelIdeal.Ring.scores x rw i e) (-(Cert.KernelIdeal.Ring.scores x rw i e)) < ⊤ := by
    by_contra hn
    exact absurd ((congrArg BitVec.ofBool (decide_eq_false hn)).symm.trans hb) (by decide)
  obtain ⟨h1, h2⟩ := max_lt_iff.1 hlt
  refine ⟨(Cert.KernelIdeal.Ring.scores x rw i e).toReal, (EReal.coe_toReal h1.ne ?_).symm⟩
  intro hbot
  rw [hbot, EReal.neg_bot] at h2
  exact lt_irrefl _ h2

/-- Token `i` of device `c`. -/
abbrev tok (c : Fin 32) (i : Fin 512) : Fin 16384 := ⟨c.val * 512 + i.val, by omega⟩

section
open Cert.KernelIdeal Cert.KernelIdeal.Ring

/-- An element of a device's block of rows in the whole array. -/
theorem block2 {α : Type} {n n' k : ℕ} (c : Fin 32) (v : (⟨2, ![n', k]⟩ : Shape).Idx → α) (ht : Layout.Tiles ⟨2, ![n, k]⟩ ⟨2, ![n', k]⟩ 0 32)
    (i : Fin n) (j : Fin k) (i' : Fin n') (hi : i'.val = c.val * n + i.val) :
    Layout.block ⟨2, ![n, k]⟩ ⟨2, ![n', k]⟩ 0 32 c v ht (ix2 i j) = v (ix2 i' j) := by
  rw [Layout.block_apply]
  refine congrArg v (funext fun a => Fin.ext ?_)
  match a with
  | 0 => exact hi.symm
  | 1 => rfl

/-- An element of a device's experts in the whole array. -/
theorem block3 {α : Type} (c : Fin 32) (v : (⟨3, ![128, 256, 512]⟩ : Shape).Idx → α)
    (q : Fin 4) (k : Fin 256) (j : Fin 512) :
    Layout.block ⟨3, ![4, 256, 512]⟩ ⟨3, ![128, 256, 512]⟩ 0 32 c v (by decide) (ix3 q k j) = v (ix3 (expert c q) k j) := by
  rw [Layout.block_apply]
  refine congrArg v (funext fun a => Fin.ext ?_)
  match a with
  | 0 => show c.val * 4 + q.val = q.val + 4 * c.val; omega
  | 1 => rfl
  | 2 => rfl

/-- The device's result is its block of the reference's. -/
theorem out_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (r : Dev Cert.ReferenceIdeal.nD)
    (x : Vec Ideal ⟨2, ![16384, 256]⟩ .f32) (rw : Vec Ideal ⟨2, ![256, 128]⟩ .f32) (rt : Vec Ideal ⟨2, ![16384, 1]⟩ .i32)
    (ew : Vec Ideal ⟨3, ![128, 256, 512]⟩ .f32) (sw : Vec Ideal ⟨2, ![256, 512]⟩ .f32)
    (hx : m' ((r.tc : Thread _ _).loc Cert.ReferenceIdeal.main_arg0) = x) (hrw : m' ((r.tc : Thread _ _).loc Cert.ReferenceIdeal.main_arg1) = rw)
    (hrt : m' ((r.tc : Thread _ _).loc Cert.ReferenceIdeal.main_arg2) = rt) (hew : m' ((r.tc : Thread _ _).loc Cert.ReferenceIdeal.main_arg3) = ew)
    (hsw : m' ((r.tc : Thread _ _).loc Cert.ReferenceIdeal.main_arg4) = sw)
    (kx : ∀ c : Dev nD, m ((c.tc : Thread nD τ).loc main_arg0) = Layout.block ⟨2, ![512, 256]⟩ ⟨2, ![16384, 256]⟩ 0 32 c x)
    (krw : ∀ c : Dev nD, m ((c.tc : Thread nD τ).loc main_arg1) = rw)
    (krt : ∀ c : Dev nD, m ((c.tc : Thread nD τ).loc main_arg2) = Layout.block ⟨2, ![512, 1]⟩ ⟨2, ![16384, 1]⟩ 0 32 c rt)
    (kew : ∀ c : Dev nD, m ((c.tc : Thread nD τ).loc main_arg3) = Layout.block ⟨3, ![4, 256, 512]⟩ ⟨3, ![128, 256, 512]⟩ 0 32 c ew)
    (ksw : ∀ c : Dev nD, m ((c.tc : Thread nD τ).loc main_arg4) = sw)
    (c : Dev nD)
    (hs : ∀ i, Fine (scores ((ins m).x c) ((ins m).rw c) i)) :
    outAt m c = Layout.block ⟨2, ![512, 512]⟩ ⟨2, ![16384, 512]⟩ 0 32 c (Cert.ReferenceIdeal.Value.res_main_v42 m' r) := by
  have ix : ∀ i k, (ins m).x c (ix2 i k) = x (ix2 (tok c i) k) := fun i k =>
    (congrFun ((ins_x m c).trans (kx c)) _).trans (block2 c x _ i k _ rfl)
  have irw : (ins m).rw c = rw := (ins_rw m c).trans (krw c)
  have irt : ∀ i, (ins m).rt c (ix2 i 0) = rt (ix2 (tok c i) 0) := fun i =>
    (congrFun ((ins_rt m c).trans (krt c)) _).trans (block2 c rt _ i 0 _ rfl)
  have isw : (ins m).sw c = sw := (ins_sw m c).trans (ksw c)
  have iew : ∀ d q k j, (ins m).ew d (ix3 q k j) = ew (ix3 (expert d q) k j) := fun d q k j =>
    (congrFun ((ins_ew m d).trans (kew d)) _).trans (block3 d ew q k j)
  funext y
  obtain ⟨i, j, rfl⟩ : ∃ (i : Fin 512) (j : Fin 512), y = ix2 i j := ⟨y 0, y 1, by
    funext a
    match a with
    | 0 => rfl
    | 1 => rfl⟩
  have hsc : scores ((ins m).x c) ((ins m).rw c) i = Cert.ReferenceIdeal.Value.scores x rw (tok c i) := by
    funext e
    unfold scores Cert.ReferenceIdeal.Value.scores
    rw [irw]
    exact Finset.sum_congr rfl fun k _ => by rw [ix]
  have hfine := hs i
  rw [hsc] at hfine
  refine Eq.trans ?_ (block2 c _ _ i j (tok c i) rfl).symm
  rw [Cert.ReferenceIdeal.Value.out_at m' r x rw rt ew sw hx hrw hrt hew hsw (tok c i) j hfine]
  refine (out_at (ins m) c i j (fun e k => ew (ix3 e k j)) (fun d q k => iew d q k j)).trans ?_
  rw [hsc, irt, isw]
  simp only [ix]

end

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch3
public import proofs.«01_k».proof.Proof.ValEq
public import Idealize.ShloMosaic.Adequacy
public import Idealize.ShloMosaic.Init

@[expose] public section

noncomputable section

namespace Cert.Proof

open Idealize.ShloMosaic Idealize.ShloMosaic.TcCoe Idealize.SL.Sem

section
open Cert.KernelIdeal Cert.KernelIdeal.Ring

/-- What a run leaves of the arguments, and of the counters. -/
def Kept {F : FTy → Type} [FloatOps F] (m : (ℓ : Loc nD τ sig) → Buf (Elt F) ℓ) (r : PUnit × MemSt nD τ sig (Elt F)) : Prop :=
  ∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- The ring's run keeps every argument. -/
theorem kept_of {F : FTy → Type} [FloatOps F] (m : (ℓ : Loc nD τ sig) → Buf (Elt F) ℓ) {r : PUnit × MemSt nD τ sig (Elt F)} (h : QC m r) :
    Kept m r := fun c =>
  ⟨(h c 0).trans (finalA_in m c 0 rfl), (h c 1).trans (finalA_in m c 1 rfl), (h c 2).trans (finalA_in m c 2 rfl),
    (h c 3).trans (finalA_in m c 3 rfl), (h c 4).trans (finalA_in m c 4 rfl)⟩
end

set_option maxRecDepth 100000 in
/-- The body of the kernel's grid point is the same term in both programs. -/
theorem body_same : @Cert.Kernel.cc0_body Bits _ Cert.Kernel.Gen.facts = @Cert.KernelIdeal.cc0_body Bits _ Cert.KernelIdeal.Gen.facts := rfl

set_option maxRecDepth 100000 in
/-- The two programs define the same routines, at the same floats. -/
theorem defs_same : @Cert.Kernel.defs Bits _ Cert.Kernel.Gen.facts = @Cert.KernelIdeal.defs Bits _ Cert.KernelIdeal.Gen.facts := by
  have h : @Cert.Kernel.defs₀ Bits _ Cert.Kernel.Gen.facts = @Cert.KernelIdeal.defs₀ Bits _ Cert.KernelIdeal.Gen.facts := by
    unfold Cert.Kernel.defs₀ Cert.KernelIdeal.defs₀
    refine congrArg Defs.onTc ?_
    funext l x
    match l, x with
    | ⟨0, _⟩, (t, s) => exact rfl
  unfold Cert.Kernel.defs Cert.KernelIdeal.defs
  exact congrArg (Pipeline.defs _) h

/-- The kernel at the machine's floats: it runs, keeps its arguments, and every counter is back at zero. -/
theorem frame_kernel : Cert.quiescent_Kernel := fun m ρ _ => by
  have h : θ_run Cert.KernelIdeal.defs (onTc (τ := Cert.KernelIdeal.τ) (Cert.KernelIdeal.main (F := Bits))) ⟨m, fun _ => 0, ρ⟩ (fun r => Kept (F := Bits) m r ∧ r.2.sem = fun _ => 0) :=
    (θ_run Cert.KernelIdeal.defs _ _).mono (fun _ h => ⟨kept_of (F := Bits) m h.1, h.2⟩) (Cert.KernelIdeal.Ring.run_main (F := Bits) m ρ)
  rw [← defs_same] at h
  exact h

/-- The kernel at exact arithmetic: it runs, keeps its arguments, and every counter is back at zero. -/
theorem frame_ideal : Cert.quiescent_KernelIdeal := fun m ρ _ =>
  (θ_run Cert.KernelIdeal.defs _ _).mono (fun _ h => ⟨kept_of (F := Ideal) m h.1, h.2⟩) (Cert.KernelIdeal.Ring.run_main (F := Ideal) m ρ)

/-- The reference at exact arithmetic: it runs and keeps its arguments; it has no counters. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- At exact arithmetic, from finite scores, every device's result is its block of the reference's. -/
theorem value : Cert.algebraic_KernelIdeal_ReferenceIdeal_pre_finite_scores_KernelIdeal (hPre_finite_scores_KernelIdeal := Cert.Moe.pre_facts) :=
  fun m g m' g' hp ha => by
    have hout : ∀ c, Cert.KernelIdeal.Ring.finalA m c 5
        = Layout.block ⟨2, ![512, 512]⟩ ⟨2, ![16384, 512]⟩ 0 32 c (Cert.ReferenceIdeal.Value.res_main_v42 m' 0) := fun c =>
      (Cert.KernelIdeal.Ring.final_out m c).trans
        (Cert.Moe.out_eq m m' 0 _ _ _ _ _ rfl rfl rfl rfl rfl (fun d => (ha d).1) (fun d => (ha d).2.1) (fun d => (ha d).2.2.1)
          (fun d => (ha d).2.2.2.1) (fun d => (ha d).2.2.2.2) c fun i => by
            rw [Cert.KernelIdeal.Ring.ins_x, Cert.KernelIdeal.Ring.ins_rw]
            exact Cert.Moe.fine_of _ _ _ _ _ (hp c) i)
    exact ⟨Cert.ReferenceIdeal.Value.res_main_v42 m' 0,
      (θ_run Cert.KernelIdeal.defs _ _).mono (fun _ h c => ⟨(h.1 c 5).trans (hout c), kept_of (F := Ideal) m h.1 c⟩)
        (Cert.KernelIdeal.Ring.run_main (F := Ideal) m g),
      (θ_run Cert.ReferenceIdeal.defs _ _).mono (fun _ h => h 0) (Cert.ReferenceIdeal.Value.run (F := Ideal) m' g')⟩

/-- Everything claimed. -/
theorem claim : Cert.Claim := ⟨Cert.Kernel.Gen.facts, Cert.KernelIdeal.Gen.facts, Cert.ReferenceIdeal.Gen.facts,
  Cert.Moe.pre_facts, Cert.Moe.pre_facts_whole,
  frame_kernel, frame_ideal, fun m g _ => frame_ideal m g trivial, frame_reference, fun m g _ => frame_reference m g trivial,
  trivial, value⟩

end Cert.Proof

end
